-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_at_arange [hPre_finite_at_arange : Cert.Pre_finite_at_arange.Facts] (m : (ℓ : Loc Cert.KernelIdeal.nD Cert.KernelIdeal.τ Cert.KernelIdeal.sig) → Buf (Elt Ideal) ℓ) : Prop :=
  ∀ c : Dev Cert.KernelIdeal.nD,
    (Cert.Pre_finite_at_arange.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_at_arange [hPre_finite_at_arange : Cert.Pre_finite_at_arange.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_at_arange.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_at_arange [hKernelIdeal : Cert.KernelIdeal.Facts] [hPre_finite_at_arange : Cert.Pre_finite_at_arange.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_at_arange m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_at_arange [hReferenceIdeal : Cert.ReferenceIdeal.Facts] [hPre_finite_at_arange : Cert.Pre_finite_at_arange.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_at_arange m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log_theta" .f32 0xBE135D8E#32 (((-1 / 64) * (Real.log 10000) : ℝ) : EReal)
  ∧ IdealRules.named_const.Statement Cert.KernelIdeal.κ "rspan" .f32 0x3F19999A#32 ((3 / 5 : ℝ) : EReal)
  ∧ IdealRules.named_const.Statement Cert.KernelIdeal.κ "rmin" .f32 0x3F99999A#32 ((6 / 5 : ℝ) : EReal)
  ∧ IdealRules.named_const.Statement Cert.KernelIdeal.κ "scale" .f32 0x3DB504F3#32 (((Real.sqrt 128)⁻¹ : ℝ) : EReal)

def algebraic_KernelIdeal_ReferenceIdeal_pre_finite_at_arange [hKernelIdeal : Cert.KernelIdeal.Facts] [hReferenceIdeal : Cert.ReferenceIdeal.Facts] [hPre_finite_at_arange : Cert.Pre_finite_at_arange.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_at_arange m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_at_arange : Cert.Pre_finite_at_arange.Facts),
    quiescent_Kernel (hKernel := hKernel)
    ∧ quiescent_KernelIdeal (hKernelIdeal := hKernelIdeal)
    ∧ quiescent_KernelIdeal_pre_finite_at_arange (hKernelIdeal := hKernelIdeal) (hPre_finite_at_arange := hPre_finite_at_arange)
    ∧ quiescent_ReferenceIdeal (hReferenceIdeal := hReferenceIdeal)
    ∧ quiescent_ReferenceIdeal_pre_finite_at_arange (hReferenceIdeal := hReferenceIdeal) (hPre_finite_at_arange := hPre_finite_at_arange)
    ∧ preserves_Kernel_KernelIdeal
    ∧ algebraic_KernelIdeal_ReferenceIdeal_pre_finite_at_arange (hKernelIdeal := hKernelIdeal) (hReferenceIdeal := hReferenceIdeal) (hPre_finite_at_arange := hPre_finite_at_arange)
-- ==== Pre_finite_at_arange.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  reducesTo_S1x2048_S_d0_1 : S1x2048.ReducesTo [0, 1] S_

variable [Facts]

def fn_part1 {F : FTy → Type} [FloatOps F] (main_v13 : IVec S_ 1) (main_v16 : IVec S_ 1) : IVec S_ 1 :=
  let main_v17 : IVec S_ 1 := andi main_v13 main_v16
  main_v17

def fn {F : FTy → Type} [FloatOps F] (main_arg0 : FVec F S1x2048x2048 .f32) (main_arg1 : IVec S1x2048 32) (main_arg2 : FVec F S2048x2048 .f32) (main_arg3 : FVec F S2048x2048 .f32) (main_arg4 : FVec F S2048x2048 .f32) (main_arg5 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : IVec S1x2048 32 := iotaInDim S1x2048 32 1
  let main_v15 : IVec S1x2048 1 := cmpi .eq main_arg1 main_v14
  let main_c_4 : IVec S_ 1 := constantI S_ 1 1#1
  let main_v16 : IVec S_ 1 := (fun x v => Host.reduce IntOp.andi x v reducesTo_S1x2048_S_d0_1 h_S_) main_v15 main_c_4
  fn_part1 (F := F) main_v13 main_v16
-- ==== Kernel.lean ====
abbrev S1x2048x2048 : Shape := ⟨3, ![1, 2048, 2048]⟩
abbrev S1x2048 : Shape := ⟨2, ![1, 2048]⟩
abbrev S2048x2048 : Shape := ⟨2, ![2048, 2048]⟩
abbrev S64x64 : Shape := ⟨2, ![64, 64]⟩
abbrev S_ : Shape := ⟨0, ![]⟩
abbrev S64x128 : Shape := ⟨2, ![64, 128]⟩
abbrev S128x128 : Shape := ⟨2, ![128, 128]⟩
abbrev S2048x4096 : Shape := ⟨2, ![2048, 4096]⟩
abbrev S2048x256 : Shape := ⟨2, ![2048, 256]⟩
abbrev S2048x512 : Shape := ⟨2, ![2048, 512]⟩
abbrev S1x128 : Shape := ⟨2, ![1, 128]⟩
abbrev S2048x128 : Shape := ⟨2, ![2048, 128]⟩
abbrev S1024x128 : Shape := ⟨2, ![1024, 128]⟩
abbrev S1024x256 : Shape := ⟨2, ![1024, 256]⟩
abbrev S1024x1024 : Shape := ⟨2, ![1024, 1024]⟩
abbrev S1024x1 : Shape := ⟨2, ![1024, 1]⟩
abbrev S512x2048 : Shape := ⟨2, ![512, 2048]⟩

abbrev nBuf : Space → Nat
  | .hbm => 26
  | .vmem => 27
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S64x64, .bf16⟩
  | .hbm, ⟨14, _⟩ => ⟨S_, .bf16⟩
  | .hbm, ⟨15, _⟩ => ⟨S64x64, .bf16⟩
  | .hbm, ⟨16, _⟩ => ⟨S64x128, .bf16⟩
  | .hbm, ⟨17, _⟩ => ⟨S64x64, .bf16⟩
  | .hbm, ⟨18, _⟩ => ⟨S64x128, .bf16⟩
  | .hbm, ⟨19, _⟩ => ⟨S128x128, .bf16⟩
  | .hbm, ⟨20, _⟩ => ⟨S2048x2048, .bf16⟩
  | .hbm, ⟨21, _⟩ => ⟨S2048x2048, .bf16⟩
  | .hbm, ⟨22, _⟩ => ⟨S2048x4096, .bf16⟩
  | .hbm, ⟨23, _⟩ => ⟨S2048x2048, .bf16⟩
  | .hbm, ⟨24, _⟩ => ⟨S2048x2048, .f32⟩
  | .hbm, ⟨25, _⟩ => ⟨S1x2048x2048, .f32⟩
  | .local _ .vmem, ⟨0, _⟩ => ⟨S2048x2048, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S128x128, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x512, .bf16⟩
  | .local _ .vmem, ⟨13, _⟩ => ⟨S2048x512, .bf16⟩
  | .local _ .vmem, ⟨14, _⟩ => ⟨S1024x128, .bf16⟩
  | .local _ .vmem, ⟨15, _⟩ => ⟨S1024x128, .bf16⟩
  | .local _ .vmem, ⟨16, _⟩ => ⟨S2048x128, .bf16⟩
  | .local _ .vmem, ⟨17, _⟩ => ⟨S2048x128, .bf16⟩
  | .local _ .vmem, ⟨18, _⟩ => ⟨S2048x256, .bf16⟩
  | .local _ .vmem, ⟨19, _⟩ => ⟨S2048x256, .bf16⟩
  | .local _ .vmem, ⟨20, _⟩ => ⟨S1024x128, .bf16⟩
  | .local _ .vmem, ⟨21, _⟩ => ⟨S1024x128, .bf16⟩
  | .local _ .vmem, ⟨22, _⟩ => ⟨S512x2048, .bf16⟩
  | .local _ .vmem, ⟨23, _⟩ => ⟨S512x2048, .bf16⟩
  | .local _ .vmem, ⟨24, _⟩ => ⟨S2048x2048, .f32⟩
  | .local _ .vmem, ⟨25, _⟩ => ⟨S512x2048, .f32⟩
  | .local _ .vmem, ⟨26, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 2], ![false, false]⟩

@[reducible] def k1_t1_loop (i : grid1.Coords) : Scf.Loop 32 :=
  let c0_i32 : BitVec 32 := 0#32
  let arg1 : BitVec 32 := BitVec.ofNat 32 (i 1).val
  let c1_i32 : BitVec 32 := 1#32
  let v2 : BitVec 32 := Scalar.muli arg1 c1_i32
  let v4 : BitVec 32 := Scalar.subi v2 c0_i32
  let c1_i32_1 : BitVec 32 := 1#32
  let v6 : BitVec 32 := Scalar.divsi v4 c1_i32_1
  let v7 : BitVec 32 := Scalar.muli v6 c1_i32_1
  let v8 : BitVec 32 := Scalar.addi c0_i32 v7
  let c1_i32_2 : BitVec 32 := 1#32
  ⟨c0_i32, v8, c1_i32_2⟩
def k1_off1 (i : grid1.Coords) (k1_t1 : Fin (k1_t1_loop i).trips) : Fin 2 → Nat :=
  let c0_i32 : BitVec 32 := 0#32
  let c1_i32_2 : BitVec 32 := 1#32
  let arg6 : BitVec 32 := Scf.iv c0_i32 c1_i32_2 k1_t1
  let c1024_i32_16 : BitVec 32 := 1024#32
  let v43 : BitVec 32 := Scalar.muli arg6 c1024_i32_16
  let v44 : Index := Scalar.indexCast v43
  let c0_17 : Index := 0#32
  ![v44.toNat, 0]
def k1_off2 (i : grid1.Coords) (k1_t1 : Fin (k1_t1_loop i).trips) : Fin 2 → Nat :=
  let c0_i32 : BitVec 32 := 0#32
  let c1_i32_2 : BitVec 32 := 1#32
  let arg6 : BitVec 32 := Scf.iv c0_i32 c1_i32_2 k1_t1
  let c1024_i32_19 : BitVec 32 := 1024#32
  let v50 : BitVec 32 := Scalar.muli arg6 c1024_i32_19
  let v51 : Index := Scalar.indexCast v50
  let c0_20 : Index := 0#32
  ![v51.toNat, 0]
@[reducible] def k1_t2_loop (i : grid1.Coords) : Scf.Loop 32 :=
  let c0_i32 : BitVec 32 := 0#32
  let arg1 : BitVec 32 := BitVec.ofNat 32 (i 1).val
  let c1_i32 : BitVec 32 := 1#32
  let v2 : BitVec 32 := Scalar.muli arg1 c1_i32
  let v4 : BitVec 32 := Scalar.subi v2 c0_i32
  let c1_i32_1 : BitVec 32 := 1#32
  let v6 : BitVec 32 := Scalar.divsi v4 c1_i32_1
  let v7 : BitVec 32 := Scalar.muli v6 c1_i32_1
  let v8 : BitVec 32 := Scalar.addi c0_i32 v7
  let v5 : BitVec 32 := Scalar.addi c0_i32 v4
  let c1_i32_3 : BitVec 32 := 1#32
  ⟨v8, v5, c1_i32_3⟩
def k1_off3 (i : grid1.Coords) (k1_t2 : Fin (k1_t2_loop i).trips) : Fin 2 → Nat :=
  let c0_i32 : BitVec 32 := 0#32
  let arg1 : BitVec 32 := BitVec.ofNat 32 (i 1).val
  let c1_i32 : BitVec 32 := 1#32
  let v2 : BitVec 32 := Scalar.muli arg1 c1_i32
  let v4 : BitVec 32 := Scalar.subi v2 c0_i32
  let c1_i32_1 : BitVec 32 := 1#32
  let v6 : BitVec 32 := Scalar.divsi v4 c1_i32_1
  let v7 : BitVec 32 := Scalar.muli v6 c1_i32_1
  let v8 : BitVec 32 := Scalar.addi c0_i32 v7
  let c1_i32_3 : BitVec 32 := 1#32
  let arg6 : BitVec 32 := Scf.iv v8 c1_i32_3 k1_t2
  let c1024_i32_16 : BitVec 32 := 1024#32
  let v43 : BitVec 32 := Scalar.muli arg6 c1024_i32_16
  let v44 : Index := Scalar.indexCast v43
  let c0_17 : Index := 0#32
  ![v44.toNat, 0]
def k1_off4 (i : grid1.Coords) (k1_t2 : Fin (k1_t2_loop i).trips) : Fin 2 → Nat :=
  let c0_i32 : BitVec 32 := 0#32
  let arg1 : BitVec 32 := BitVec.ofNat 32 (i 1).val
  let c1_i32 : BitVec 32 := 1#32
  let v2 : BitVec 32 := Scalar.muli arg1 c1_i32
  let v4 : BitVec 32 := Scalar.subi v2 c0_i32
  let c1_i32_1 : BitVec 32 := 1#32
  let v6 : BitVec 32 := Scalar.divsi v4 c1_i32_1
  let v7 : BitVec 32 := Scalar.muli v6 c1_i32_1
  let v8 : BitVec 32 := Scalar.addi c0_i32 v7
  let c1_i32_3 : BitVec 32 := 1#32
  let arg6 : BitVec 32 := Scf.iv v8 c1_i32_3 k1_t2
  let c1024_i32_19 : BitVec 32 := 1024#32
  let v50 : BitVec 32 := Scalar.muli arg6 c1024_i32_19
  let v51 : Index := Scalar.indexCast v50
  let c0_20 : Index := 0#32
  ![v51.toNat, 0]
def k1_off5 (i : grid1.Coords) : Fin 2 → Nat :=
  let arg1 : BitVec 32 := BitVec.ofNat 32 (i 1).val
  let c1_i32_4 : BitVec 32 := 1#32
  let v15 : BitVec 32 := Scalar.muli arg1 c1_i32_4
  let c0_i32_5 : BitVec 32 := 0#32
  let v16 : BitVec 32 := Scalar.addi v15 c0_i32_5
  let c1024_i32_7 : BitVec 32 := 1024#32
  let v22 : BitVec 32 := Scalar.muli v16 c1024_i32_7
  let v23 : Index := Scalar.indexCast v22
  let c0_8 : Index := 0#32
  ![v23.toNat, 0]
def k1_off6 (i : grid1.Coords) : Fin 2 → Nat :=
  let arg1 : BitVec 32 := BitVec.ofNat 32 (i 1).val
  let c1_i32_4 : BitVec 32 := 1#32
  let v15 : BitVec 32 := Scalar.muli arg1 c1_i32_4
  let c0_i32_5 : BitVec 32 := 0#32
  let v16 : BitVec 32 := Scalar.addi v15 c0_i32_5
  let c1024_i32_11 : BitVec 32 := 1024#32
  let v31 : BitVec 32 := Scalar.muli v16 c1024_i32_11
  let v32 : Index := Scalar.indexCast v31
  let c0_12 : Index := 0#32
  ![v32.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "log_theta" => some (((-1 / 64) * (Real.log 10000) : ℝ) : EReal)
  | "rmin" => some ((6 / 5 : ℝ) : EReal)
  | "rspan" => some ((3 / 5 : ℝ) : EReal)
  | "scale" => some (((Real.sqrt 128)⁻¹ : ℝ) : EReal)
  | _ => none
-- ==== ReferenceIdeal.lean ====
abbrev S1x2048x2048 : Shape := ⟨3, ![1, 2048, 2048]⟩
abbrev S1x2048 : Shape := ⟨2, ![1, 2048]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S_ : Shape := ⟨0, ![]⟩
abbrev S15 : Shape := ⟨1, ![15]⟩
abbrev S1 : Shape := ⟨1, ![1]⟩
abbrev S16 : Shape := ⟨1, ![16]⟩
abbrev S1x1x2048 : Shape := ⟨3, ![1, 1, 2048]⟩
abbrev S1x16x1 : Shape := ⟨3, ![1, 16, 1]⟩
abbrev S1x16x2048 : Shape := ⟨3, ![1, 16, 2048]⟩
abbrev S64 : Shape := ⟨1, ![64]⟩
abbrev S1x16x2048x1 : Shape := ⟨4, ![1, 16, 2048, 1]⟩
abbrev S1x1x1x64 : Shape := ⟨4, ![1, 1, 1, 64]⟩
abbrev S1x16x2048x64 : Shape := ⟨4, ![1, 16, 2048, 64]⟩
abbrev S1x16x2048x2048 : Shape := ⟨4, ![1, 16, 2048, 2048]⟩
abbrev S1x1x2048x2048 : Shape := ⟨4, ![1, 1, 2048, 2048]⟩

abbrev nBuf : Space → Nat
  | .hbm => 125
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048x2048, .f32⟩
  | .hbm, ⟨7, _⟩ => ⟨S1x2048x16x128, .f32⟩
  | .hbm, ⟨8, _⟩ => ⟨S1x16x2048x128, .f32⟩
  | .hbm, ⟨9, _⟩ => ⟨S1x2048x2048, .f32⟩
  | .hbm, ⟨10, _⟩ => ⟨S1x2048x16x128, .f32⟩
  | .hbm, ⟨11, _⟩ => ⟨S1x16x2048x128, .f32⟩
  | .hbm, ⟨12, _⟩ => ⟨S1x2048x2048, .f32⟩
  | .hbm, ⟨13, _⟩ => ⟨S1x2048x16x128, .f32⟩
  | .hbm, ⟨14, _⟩ => ⟨S1x16x2048x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S15, .f32⟩
  | .hbm, ⟨23, _⟩ => ⟨S_, .f32⟩
  | .hbm, ⟨24, _⟩ => ⟨S15, .f32⟩
  | .hbm, ⟨25, _⟩ => ⟨S15, .f32⟩
  | .hbm, ⟨26, _⟩ => ⟨S1, .f32⟩
  | .hbm, ⟨27, _⟩ => ⟨S_, .f32⟩
  | .hbm, ⟨28, _⟩ => ⟨S15, .f32⟩
  | .hbm, ⟨29, _⟩ => ⟨S15, .f32⟩
  | .hbm, ⟨30, _⟩ => ⟨S15, .f32⟩
  | .hbm, ⟨31, _⟩ => ⟨S15, .f32⟩
  | .hbm, ⟨32, _⟩ => ⟨S1, .f32⟩
  | .hbm, ⟨33, _⟩ => ⟨S15, .f32⟩
  | .hbm, ⟨34, _⟩ => ⟨S15, .f32⟩
  | .hbm, ⟨35, _⟩ => ⟨S15, .f32⟩
  | .hbm, ⟨36, _⟩ => ⟨S1, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S1x2048, .f32⟩
  | .hbm, ⟨42, _⟩ => ⟨S1x1x2048, .f32⟩
  | .hbm, ⟨43, _⟩ => ⟨S1x16x1, .f32⟩
  | .hbm, ⟨44, _⟩ => ⟨S1x16x2048, .f32⟩
  | .hbm, ⟨45, _⟩ => ⟨S1x16x2048, .f32⟩
  | .hbm, ⟨46, _⟩ => ⟨S1x16x2048, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S1x16x2048x1, .f32⟩
  | .hbm, ⟨64, _⟩ => ⟨S1x1x1x64, .f32⟩
  | .hbm, ⟨65, _⟩ => ⟨S1x16x2048x64, .f32⟩
  | .hbm, ⟨66, _⟩ => ⟨S1x16x2048x64, .f32⟩
  | .hbm, ⟨67, _⟩ => ⟨S1x16x2048x64, .f32⟩
  | .hbm, ⟨68, _⟩ => ⟨S1x16x2048x128, .f32⟩
  | .hbm, ⟨69, _⟩ => ⟨S1x16x2048x128, .f32⟩
  | .hbm, ⟨70, _⟩ => ⟨S1x16x2048x128, .f32⟩
  | .hbm, ⟨71, _⟩ => ⟨S1x16x2048x128, .f32⟩
  | .hbm, ⟨72, _⟩ => ⟨S1x16x2048x64, .f32⟩
  | .hbm, ⟨73, _⟩ => ⟨S1x16x2048x64, .f32⟩
  | .hbm, ⟨74, _⟩ => ⟨S1x16x2048x64, .f32⟩
  | .hbm, ⟨75, _⟩ => ⟨S1x16x2048x128, .f32⟩
  | .hbm, ⟨76, _⟩ => ⟨S1x16x2048x128, .f32⟩
  | .hbm, ⟨77, _⟩ => ⟨S1x16x2048x128, .f32⟩
  | .hbm, ⟨78, _⟩ => ⟨S1x16x2048x128, .f32⟩
  | .hbm, ⟨79, _⟩ => ⟨S1x16x2048x64, .f32⟩
  | .hbm, ⟨80, _⟩ => ⟨S1x16x2048x64, .f32⟩
  | .hbm, ⟨81, _⟩ => ⟨S1x16x2048x64, .f32⟩
  | .hbm, ⟨82, _⟩ => ⟨S1x16x2048x128, .f32⟩
  | .hbm, ⟨83, _⟩ => ⟨S1x16x2048x128, .f32⟩
  | .hbm, ⟨84, _⟩ => ⟨S1x16x2048x128, .f32⟩
  | .hbm, ⟨85, _⟩ => ⟨S1x16x2048x2048, .f32⟩
  | .hbm, ⟨86, _⟩ => ⟨S_, .f32⟩
  | .hbm, ⟨87, _⟩ => ⟨S_, .f32⟩
  | .hbm, ⟨88, _⟩ => ⟨S1x16x2048x2048, .f32⟩
  | .hbm, ⟨89, _⟩ => ⟨S1x16x2048x2048, .f32⟩
  | .hbm, ⟨90, _⟩ => ⟨S_, .i1⟩
  | .hbm, ⟨91, _⟩ => ⟨S2048x2048, .i1⟩
  | .hbm, ⟨92, _⟩ => ⟨S2048x2048, .i32⟩
  | .hbm, ⟨93, _⟩ => ⟨S_, .i32⟩
  | .hbm, ⟨94, _⟩ => ⟨S2048x2048, .i32⟩
  | .hbm, ⟨95, _⟩ => ⟨S2048x2048, .i32⟩
  | .hbm, ⟨96, _⟩ => ⟨S2048x2048, .i32⟩
  | .hbm, ⟨97, _⟩ => ⟨S2048x2048, .i1⟩
  | .hbm, ⟨98, _⟩ => ⟨S_, .i1⟩
  | .hbm, ⟨99, _⟩ => ⟨S2048x2048, .i1⟩
  | .hbm, ⟨100, _⟩ => ⟨S2048x2048, .i1⟩
  | .hbm, ⟨101, _⟩ => ⟨S1x1x2048x2048, .i1⟩
  | .hbm, ⟨102, _⟩ => ⟨S_, .f32⟩
  | .hbm, ⟨103, _⟩ => ⟨S_, .f32⟩
  | .hbm, ⟨104, _⟩ => ⟨S1x16x2048x2048, .i1⟩
  | .hbm, ⟨105, _⟩ => ⟨S1x16x2048x2048, .f32⟩
  | .hbm, ⟨106, _⟩ => ⟨S1x16x2048x2048, .f32⟩
  | .hbm, ⟨107, _⟩ => ⟨S_, .f32⟩
  | .hbm, ⟨108, _⟩ => ⟨S1x16x2048, .f32⟩
  | .hbm, ⟨109, _⟩ => ⟨S_, .f32⟩
  | .hbm, ⟨110, _⟩ => ⟨S1x16x2048, .f32⟩
  | .hbm, ⟨111, _⟩ => ⟨S1x16x2048, .f32⟩
  | .hbm, ⟨112, _⟩ => ⟨S1x16x2048x1, .f32⟩
  | .hbm, ⟨113, _⟩ => ⟨S1x16x2048x2048, .f32⟩
  | .hbm, ⟨114, _⟩ => ⟨S1x16x2048x2048, .f32⟩
  | .hbm, ⟨115, _⟩ => ⟨S1x16x2048x2048, .f32⟩
  | .hbm, ⟨116, _⟩ => ⟨S_, .f32⟩
  | .hbm, ⟨117, _⟩ => ⟨S1x16x2048, .f32⟩
  | .hbm, ⟨118, _⟩ => ⟨S1x16x2048x1, .f32⟩
  | .hbm, ⟨119, _⟩ => ⟨S1x16x2048x2048, .f32⟩
  | .hbm, ⟨120, _⟩ => ⟨S1x16x2048x2048, .f32⟩
  | .hbm, ⟨121, _⟩ => ⟨S1x16x2048x128, .f32⟩
  | .hbm, ⟨122, _⟩ => ⟨S1x2048x16x128, .f32⟩
  | .hbm, ⟨123, _⟩ => ⟨S1x2048x2048, .f32⟩
  | .hbm, ⟨124, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_7 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c : Ref sig .tc := ⟨.hbm, 90, rfl⟩
abbrev main_v55 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_c_0 : Ref sig .tc := ⟨.hbm, 98, rfl⟩
abbrev main_call1_v5 : Ref sig .tc := ⟨.hbm, 99, rfl⟩
abbrev main_v56 : Ref sig .tc := ⟨.hbm, 100, rfl⟩
abbrev main_v57 : Ref sig .tc := ⟨.hbm, 101, rfl⟩
abbrev main_cst_8 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v58 : Ref sig .tc := ⟨.hbm, 106, rfl⟩
abbrev main_cst_9 : Ref sig .tc := ⟨.hbm, 107, rfl⟩
abbrev main_v59 : Ref sig .tc := ⟨.hbm, 108, rfl⟩
abbrev main_cst_10 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_11 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩

abbrev nD : Nat := 1
abbrev τ : Topo := Topo.v7x

variable {F : FTy → Type} [FloatOps F]
-- ==== Proof.Run.lean ====
/- The whole kernel's run: it ends with the result array at the last boundary's contents and the arguments as launched. -/
module

public import proofs.«01_k».proof.Proof.Gen.KernelIdeal.Frame

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with its result at the last boundary's contents and its arguments unchanged. -/
theorem run : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Attn

end
-- ==== Proof.Spec.lean ====
/- The functions both programs compute, over matrices of extended reals. -/
module

public import Idealize.ShloMosaic.PureOps.Ideal
public import Idealize.ShloMosaic.PureOps.Ideal.Laws
public import Idealize.ShloMosaic.Lib.Pointwise
public import Mathlib.Analysis.SpecialFunctions.Trigonometric.Basic
public import Mathlib.Analysis.SpecialFunctions.Log.Basic

@[expose] public section

noncomputable section

namespace Cert.Attn

open Idealize.ShloMosaic

/-- A matrix with 2048 rows. -/
abbrev Mat (n : ℕ) := Fin 2048 → Fin n → EReal

/-- An array read as a matrix. -/
def rd {n : ℕ} (a : (⟨2, ![2048, n]⟩ : Shape).Idx → EReal) : Mat n := fun r c => a (ix2 r c)

/-- A matrix as an array. -/
def wr {n : ℕ} (f : Mat n) : (⟨2, ![2048, n]⟩ : Shape).Idx → EReal := fun j => f (j 0) (j 1)

theorem rd_wr {n : ℕ} (f : Mat n) : rd (wr f) = f := rfl

/-- The head a column belongs to. -/
def head (c : Fin 2048) : Fin 16 := ⟨c.val / 128, by have := c.isLt; omega⟩

/-- The column's lane within its head. -/
def lane (c : Fin 2048) : Fin 128 := ⟨c.val % 128, by omega⟩

/-- The column of a head's lane. -/
def col (h : Fin 16) (d : Fin 128) : Fin 2048 := ⟨128 * h.val + d.val, by have := h.isLt; have := d.isLt; omega⟩

/-- The column of a head's lane in the value array, whose heads are 256 columns wide. -/
def vcol (h : Fin 16) (d : Fin 256) : Fin 4096 := ⟨256 * h.val + d.val, by have := h.isLt; have := d.isLt; omega⟩

/-- A product of matrices at a row and a column. -/
def lin {n : ℕ} (x : Mat 2048) (w : Mat n) : Mat n := fun r c => ∑ k : Fin 2048, x r k * w k c

/-- The angle a head turns a lane by at a row. -/
def angle (h : Fin 16) (r : Fin 2048) (d : Fin 128) : ℝ :=
  (r.val : ℝ) * Real.exp (((d.val % 64 : ℕ) : ℝ) * (-1 / 64 * Real.log 10000)) * (1 / (6 / 5 + 3 / 5 * (h.val : ℝ) / 15))

/-- The two halves of a head exchanged, the upper one negated. -/
def rotate (f : Fin 128 → EReal) (d : Fin 128) : EReal :=
  if h : d.val < 64 then -f ⟨d.val + 64, by omega⟩ else f ⟨d.val - 64, by have := d.isLt; omega⟩

/-- A head turned lane by lane. -/
def rope (f : Fin 128 → EReal) (a : Fin 128 → ℝ) (d : Fin 128) : EReal :=
  f d * ((Real.cos (a d) : ℝ) : EReal) + rotate f d * ((Real.sin (a d) : ℝ) : EReal)

/-- The projected and turned array. -/
def turned (x w : Mat 2048) : Mat 2048 := fun r c =>
  rope (fun d => lin x w r (col (head c) d)) (angle (head c) r) (lane c)

/-- The kernel's query array: turned and scaled. -/
def qarr (x w : Mat 2048) : Mat 2048 := fun r c => turned x w r c * (((Real.sqrt 128)⁻¹ : ℝ) : EReal)

/-- The kernel's value array: a head's values, then a lane of ones, then zeros. -/
def varr (x w : Mat 2048) : Mat 4096 := fun r c =>
  if h : c.val % 256 < 128 then lin x w r (col ⟨c.val / 256, by have := c.isLt; omega⟩ ⟨c.val % 256, h⟩)
  else if c.val % 256 = 128 then 1 else 0

/-- The kernel's weight of a key for a query: no shift, zero past the diagonal. -/
def weight (q k : Mat 2048) (h : Fin 16) (i j : Fin 2048) : EReal :=
  if j.val ≤ i.val then Ideal.exp (∑ d : Fin 128, q i (col h d) * k j (col h d)) else 0

/-- The weighted sum of a column of the value array. -/
def wsum (q k : Mat 2048) (v : Mat 4096) (h : Fin 16) (i : Fin 2048) (d : Fin 256) : EReal :=
  ∑ j : Fin 2048, weight q k h i j * v j (vcol h d)

/-- The kernel's attention: the weighted sum over the sum of the weights. -/
def attn (q k : Mat 2048) (v : Mat 4096) : Mat 2048 := fun i c =>
  Ideal.div (wsum q k v (head c) i ⟨(lane c).val, by have := (lane c).isLt; omega⟩) (wsum q k v (head c) i 128)

end Cert.Attn

end
-- ==== Proof.Consts.lean ====
/- The constants the kernel reads, as extended reals. -/
module

public import proofs.«01_k».proof.Defs
public import proofs.«01_k».proof.Proof.Spec

@[expose] public section

noncomputable section

namespace Cert.Attn

open Idealize.ShloMosaic

theorem named_scale : (Named.named (F := Ideal) Cert.KernelIdeal.κ "scale" 0x3DB504F3#32 : Ideal .f32) = (((Real.sqrt 128)⁻¹ : ℝ) : EReal) :=
  IdealRules.named_const.ideal_named_scalar _ _ _ _ rfl

theorem named_log_theta : (Named.named (F := Ideal) Cert.KernelIdeal.κ "log_theta" 0xBE135D8E#32 : Ideal .f32) = (((-1 / 64) * Real.log 10000 : ℝ) : EReal) :=
  IdealRules.named_const.ideal_named_scalar _ _ _ _ rfl

theorem named_rspan : (Named.named (F := Ideal) Cert.KernelIdeal.κ "rspan" 0x3F19999A#32 : Ideal .f32) = ((3 / 5 : ℝ) : EReal) :=
  IdealRules.named_const.ideal_named_scalar _ _ _ _ rfl

theorem named_rmin : (Named.named (F := Ideal) Cert.KernelIdeal.κ "rmin" 0x3F99999A#32 : Ideal .f32) = ((6 / 5 : ℝ) : EReal) :=
  IdealRules.named_const.ideal_named_scalar _ _ _ _ rfl

theorem bits_zero : Ideal.ofBits .f32 0x00000000#32 = 0 := by simp [Ideal.ofBits, Ideal.ieee, -EReal.coe_mul]

theorem bits_one : Ideal.ofBits .f32 0x3F800000#32 = ((1 : ℝ) : EReal) := by
  simp [Ideal.ofBits, Ideal.ieee, -EReal.coe_mul]; norm_num

theorem bits_fifteen : Ideal.ofBits .f32 0x41700000#32 = ((15 : ℝ) : EReal) := by
  simp [Ideal.ofBits, Ideal.ieee, -EReal.coe_mul]; norm_num

end Cert.Attn

end
-- ==== Proof.Block0.lean ====
/- The first region's body: what one block of each output holds at an index. -/
module

public import proofs.«01_k».proof.Proof.Gen.KernelIdeal.Frame
public import proofs.«01_k».proof.Proof.Spec
public import proofs.«01_k».proof.Proof.Consts
public import Idealize.ShloMosaic.Lib.Pointwise
public import Idealize.ShloMosaic.Lib.Pipeline.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

/-- The signed exchange of halves, as the matrix the kernel multiplies by. -/
def swap (k d : Fin 128) : EReal := if d.val = k.val + 64 then 1 else if k.val = d.val + 64 then -1 else 0

/-- The angle before the head's ratio. -/
def freq (r : Fin 2048) (d : Fin 128) : ℝ :=
  (r.val : ℝ) * Real.exp (((d.val % 64 : ℕ) : ℝ) * (-1 / 64 * Real.log 10000))

/-- A head's ratio. -/
def ratio (h : ℕ) : ℝ := 6 / 5 + 3 / 5 * (h : ℝ) / 15

theorem ratio_pos (h : ℕ) : 0 < ratio h := by unfold ratio; positivity

/-- Multiplying by the exchange matrix exchanges the halves. -/
theorem sum_swap (f : Fin 128 → EReal) (d : Fin 128) : ∑ k : Fin 128, f k * swap k d = rotate f d := by
  unfold rotate
  split
  · rename_i h
    rw [Finset.sum_eq_single (⟨d.val + 64, by omega⟩ : Fin 128)]
    · simp only [swap]
      rw [if_neg (by omega), if_pos trivial, mul_neg, mul_one]
    · intro k _ hk
      have : k.val ≠ d.val + 64 := fun e => hk (Fin.ext e)
      rw [swap, if_neg (by omega), if_neg this, mul_zero]
    · intro hk; exact absurd (Finset.mem_univ _) hk
  · rename_i h
    have := d.isLt
    rw [Finset.sum_eq_single (⟨d.val - 64, by omega⟩ : Fin 128)]
    · simp only [swap]
      rw [if_pos (by omega), mul_one]
    · intro k _ hk
      have : k.val ≠ d.val - 64 := fun e => hk (Fin.ext e)
      rw [swap, if_neg (by omega), if_neg (by omega), mul_zero]
    · intro hk; exact absurd (Finset.mem_univ _) hk

theorem toInt_row : ∀ r : Fin 2048, (BitVec.ofNat 32 r.val).toInt = (r.val : ℤ) := by decide +kernel
theorem toInt_lane : ∀ d : Fin 128, (IntOp.andi (BitVec.ofNat 32 d.val) 63#32).toInt = ((d.val % 64 : ℕ) : ℤ) := by decide +kernel
theorem toInt_even : ∀ g : Fin 8, (Scalar.addi (Scalar.muli (BitVec.ofNat 32 g.val) 2#32) 0#32).toInt = ((2 * g.val + 0 : ℕ) : ℤ) := by
  decide +kernel
theorem toInt_odd : ∀ g : Fin 8, (Scalar.addi (Scalar.muli (BitVec.ofNat 32 g.val) 2#32) 1#32).toInt = ((2 * g.val + 1 : ℕ) : ℤ) := by
  decide +kernel
theorem bit_lane : ∀ d : Fin 128, (IntOp.cmpi CmpIPredicate.eq (BitVec.ofNat 32 d.val) 0#32) = if d.val = 0 then 1#1 else 0#1 := by
  decide +kernel

theorem sitofp_coe (b : BitVec 32) (n : ℕ) (h : b.toInt = (n : ℤ)) : FloatOps.sitofp (F := Ideal) FTy.f32 b = ((n : ℝ) : EReal) := by
  show ((b.toInt : ℝ) : EReal) = _
  rw [h]; norm_cast

theorem pay9_apply (r : Fin 2048) (d : Fin 128) : k0_pay9 (F := Ideal) (ix2 r d) = ((freq r d : ℝ) : EReal) := by
  pointwise [k0_pay9]
  rw [sitofp_coe _ _ (toInt_row r), sitofp_coe _ _ (toInt_lane d), named_log_theta, ← EReal.coe_mul, Ideal.exp_coe, ← EReal.coe_mul]
  rfl

theorem pay10_apply (r : Fin 2048) (d : Fin 128) :
    k0_pay10 (F := Ideal) (ix2 r d) = if d.val = 0 then (1 : EReal) else 0 := by
  pointwise [k0_pay10]
  rw [bit_lane]
  split <;> rfl

theorem pay5_apply (x : Vec Ideal S2048x2048 .f32) (w : Vec Ideal S2048x256 .f32) (r : Fin 2048) (d : Fin 256) :
    k0_pay5 (F := Ideal) x w (ix2 r d) = lin (rd x) (rd w) r d := by
  pointwise [k0_pay5, k0_pay4]
  rfl

theorem pay6_apply (x : Vec Ideal S2048x2048 .f32) (w : Vec Ideal S2048x256 .f32) (r : Fin 2048) (d : Fin 256) :
    k0_pay6 (F := Ideal) x w (ix2 r d) = lin (rd x) (rd w) r d := by
  pointwise [k0_pay6, k0_pay4]
  rfl

theorem pay7_apply (x : Vec Ideal S2048x2048 .f32) (w : Vec Ideal S2048x256 .f32) (r : Fin 2048) (d : Fin 256) :
    k0_pay7 (F := Ideal) x w (ix2 r d) = lin (rd x) (rd w) r d := by
  pointwise [k0_pay7, k0_pay4]
  rfl

/-- The ratio as the kernel spells it. -/
theorem ratio_coe (n : ℕ) : ((6 / 5 : ℝ) : EReal) + Ideal.div (((3 / 5 : ℝ) : EReal) * ((n : ℝ) : EReal)) ((15 : ℝ) : EReal) = ((ratio n : ℝ) : EReal) := by
  rw [Ideal.div_coe (by norm_num), ← EReal.coe_mul, ← EReal.coe_mul, ← EReal.coe_add]
  congr 1
  unfold ratio
  ring

theorem pay11_eq (i : grid0.Coords) : k0_pay11 (F := Ideal) i = ((ratio (2 * (i 0).val + 0) : ℝ) : EReal) := by
  have e : k0_pay11 (F := Ideal) i = (Named.named κ "rmin" 0x3F99999A#32 : Ideal .f32) +
      Ideal.div ((Named.named κ "rspan" 0x3F19999A#32 : Ideal .f32) *
        FloatOps.sitofp (F := Ideal) FTy.f32 (Scalar.addi (Scalar.muli (BitVec.ofNat 32 (i 0).val) 2#32) 0#32))
        (Ideal.ofBits FTy.f32 1097859072#32) := rfl
  rw [e, sitofp_coe _ _ (toInt_even (i 0)), named_rmin, named_rspan, bits_fifteen, ratio_coe]

theorem angle_eq (h : Fin 16) (r : Fin 2048) (d : Fin 128) : ((freq r d : ℝ) : EReal) * Ideal.div 1 ((ratio h.val : ℝ) : EReal) = ((angle h r d : ℝ) : EReal) := by
  rw [Ideal.div_coe (ratio_pos _).ne', one_mul, ← EReal.coe_mul]
  rfl

theorem pay13_apply (v20 : FVec Ideal S2048x128 .f32) (a b : Ideal .f32) (r : Fin 2048) (d : Fin 128) :
    k0_pay13 (F := Ideal) v20 a b (ix2 r d) = Ideal.cos (v20 (ix2 r d) * Ideal.div b a) := by
  pointwise [k0_pay13, k0_pay12]

theorem pay14_apply (v20 : FVec Ideal S2048x128 .f32) (a b : Ideal .f32) (r : Fin 2048) (d : Fin 128) :
    k0_pay14 (F := Ideal) v20 a b (ix2 r d) = Ideal.sin (v20 (ix2 r d) * Ideal.div b a) := by
  pointwise [k0_pay14, k0_pay12]

theorem pay18_apply (g : Fin 8) (v20 : FVec Ideal S2048x128 .f32) (r : Fin 2048) (d : Fin 128) :
    k0_pay18 (F := Ideal) (BitVec.ofNat 32 g.val) v20 (ix2 r d) = v20 (ix2 r d) * Ideal.div 1 ((ratio (2 * g.val + 1) : ℝ) : EReal) := by
  pointwise [k0_pay18]
  rw [toInt_odd g, named_rmin, named_rspan, bits_fifteen, Int.cast_natCast, ratio_coe]

theorem pay19_apply (g : Fin 8) (v20 : FVec Ideal S2048x128 .f32) (r : Fin 2048) (d : Fin 128) :
    k0_pay19 (F := Ideal) (BitVec.ofNat 32 g.val) v20 (ix2 r d) = Ideal.cos (v20 (ix2 r d) * Ideal.div 1 ((ratio (2 * g.val + 1) : ℝ) : EReal)) := by
  rw [← pay18_apply]
  pointwise [k0_pay19]

theorem pay20_apply (g : Fin 8) (v20 : FVec Ideal S2048x128 .f32) (r : Fin 2048) (d : Fin 128) :
    k0_pay20 (F := Ideal) (BitVec.ofNat 32 g.val) v20 (ix2 r d) = Ideal.sin (v20 (ix2 r d) * Ideal.div 1 ((ratio (2 * g.val + 1) : ℝ) : EReal)) := by
  rw [← pay18_apply]
  pointwise [k0_pay20]

/-- The turn of a pair of heads' columns: column `n` belongs to the pair's head `n / 128`. -/
def turned2 (x : Mat 2048) (w : Mat 256) (g : Fin 8) (r : Fin 2048) (n : Fin 256) : EReal :=
  rope (fun d => lin x w r ⟨128 * (n.val / 128) + d.val, by have := n.isLt; have := d.isLt; omega⟩)
    (angle ⟨2 * g.val + n.val / 128, by have := n.isLt; have := g.isLt; omega⟩ r) ⟨n.val % 128, by omega⟩

theorem turned2_at (x : Mat 2048) (w : Mat 256) (g : Fin 8) (a r : Fin 2048) (n : Fin 256) (s : Fin 2) (d : Fin 128)
    (ha : a.val = r.val) (hn : n.val = 128 * s.val + d.val) :
    turned2 x w g a n = rope (fun d => lin x w r ⟨128 * s.val + d.val, by have := s.isLt; have := d.isLt; omega⟩)
      (angle ⟨2 * g.val + s.val, by have := s.isLt; have := g.isLt; omega⟩ r) d := by
  have h1 : n.val / 128 = s.val := by have := d.isLt; omega
  have h2 : n.val % 128 = d.val := by have := d.isLt; omega
  obtain rfl := Fin.ext ha
  unfold turned2
  simp only [h1, h2]

/-- The kernel's spelling of a turn. -/
theorem rope_eq (f : Fin 128 → EReal) (P : Fin 128 → Fin 128 → EReal) (hP : P = swap) (h : Fin 16) (r : Fin 2048) (d : Fin 128)
    (z : EReal) (hz : z = ((angle h r d : ℝ) : EReal)) :
    f d * Ideal.cos z + (∑ k : Fin 128, f k * P k d) * Ideal.sin z = rope f (angle h r) d := by
  subst hP hz
  rw [sum_swap]
  rfl

variable (i : grid0.Coords) (x0 : Vec Ideal S2048x2048 .f32) (x1 x2 x3 : Vec Ideal S2048x256 .f32) (x4 : Vec Ideal S128x128 .bf16)

theorem pay8_apply (k d : Fin 128) : k0_pay25 (F := Ideal) i x0 x1 x2 x3 x4 (ix2 k d) = x4 (ix2 k d) := by
  unfold k0_pay25
  rw [View.ld_unit_zero (S := S128x128) (by decide)]
  pointwise [k0_pay8]

theorem pay22_apply (r : Fin 2048) (n : Fin 256) : k0_pay22 (F := Ideal) i x0 x1 x2 x3 x4 (ix2 r n) = lin (rd x0) (rd x1) r n := by
  unfold k0_pay22
  rw [View.ld_unit_zero (S := S2048x2048) (by decide), View.ld_unit_zero (S := S2048x256) (by decide), pay5_apply]

theorem pay23_apply (r : Fin 2048) (n : Fin 256) : k0_pay23 (F := Ideal) i x0 x1 x2 x3 x4 (ix2 r n) = lin (rd x0) (rd x2) r n := by
  unfold k0_pay23
  rw [View.ld_unit_zero (S := S2048x2048) (by decide), View.ld_unit_zero (S := S2048x256) (by decide), pay6_apply]

theorem pay24_apply (r : Fin 2048) (n : Fin 256) : k0_pay24 (F := Ideal) i x0 x1 x2 x3 x4 (ix2 r n) = lin (rd x0) (rd x3) r n := by
  unfold k0_pay24
  rw [View.ld_unit_zero (S := S2048x2048) (by decide), View.ld_unit_zero (S := S2048x256) (by decide), pay7_apply]

/-- The pair of heads a grid point works on. -/
def pair : Fin 8 := i 0

theorem pay11_pair : k0_pay11 (F := Ideal) i = ((ratio (2 * (pair i).val + (0 : Fin 2).val) : ℝ) : EReal) := pay11_eq i
theorem pay28_apply (r : Fin 2048) (d : Fin 128) :
    k0_pay28 (F := Ideal) i x0 x1 x2 x3 x4 (ix2 r d) = Ideal.cos (((freq r d : ℝ) : EReal) * Ideal.div 1 ((ratio (2 * (pair i).val + (1 : Fin 2).val) : ℝ) : EReal)) := by
  unfold k0_pay28
  refine (pay19_apply (pair i) _ r d).trans ?_
  unfold k0_pay26
  rw [pay9_apply]
  rfl

theorem pay29_apply (r : Fin 2048) (d : Fin 128) :
    k0_pay29 (F := Ideal) i x0 x1 x2 x3 x4 (ix2 r d) = Ideal.sin (((freq r d : ℝ) : EReal) * Ideal.div 1 ((ratio (2 * (pair i).val + (1 : Fin 2).val) : ℝ) : EReal)) := by
  unfold k0_pay29
  refine (pay20_apply (pair i) _ r d).trans ?_
  unfold k0_pay26
  rw [pay9_apply]
  rfl

theorem pay26_apply (r : Fin 2048) (d : Fin 128) : k0_pay26 (F := Ideal) i x0 x1 x2 x3 x4 (ix2 r d) = ((freq r d : ℝ) : EReal) := by
  unfold k0_pay26
  rw [pay9_apply]

/-- One block of the query array. -/
theorem block0_q (hP : ∀ k d, x4 (ix2 k d) = swap k d) (y : S2048x256.Idx) :
    out0_5 (F := Ideal) i x0 x1 x2 x3 x4 y = turned2 (rd x0) (rd x1) (pair i) (y 0) (y 1) * (((Real.sqrt 128)⁻¹ : ℝ) : EReal) := by
  unfold out0_5
  refine View.canon_apply_of_pieces (Val := Elt Ideal) (e := .bf16) (fun y : S2048x256.Idx => turned2 (rd x0) (rd x1) (pair i) (y 0) (y 1) * (((Real.sqrt 128)⁻¹ : ℝ) : EReal)) _ ?_ y (cover0_5 _ _ y)
  simp only [List.mem_cons, List.not_mem_nil, or_false, forall_eq_or_imp, forall_eq]
  constructor
  · intro z
    obtain ⟨r, d, rfl⟩ : ∃ r d, z = ix2 r d := ⟨z 0, z 1, ValueIdx.eq_ix2 z⟩
    refine Eq.trans ?_ (congrArg (· * (((Real.sqrt 128)⁻¹ : ℝ) : EReal)) (turned2_at _ _ _ _ r _ 1 d ?_ ?_)).symm
    · pointwise [k0_pay1, k0_pay21]
      simp only [pay22_apply, pay28_apply, pay29_apply, pay8_apply, hP, named_scale]
      refine congrArg (· * (((Real.sqrt 128)⁻¹ : ℝ) : EReal)) ?_
      exact rope_eq (fun d => lin (rd x0) (rd x1) r ⟨128 + d.val, by omega⟩) swap rfl ⟨2 * (pair i).val + (1 : Fin 2).val, by omega⟩ r d _ (angle_eq ⟨2 * (pair i).val + (1 : Fin 2).val, by omega⟩ r d)
    · rw [ValueKit.rect_emb_unit_val]; exact Nat.zero_add _
    · rw [ValueKit.rect_emb_unit_val]; rfl
  · intro z
    obtain ⟨r, d, rfl⟩ : ∃ r d, z = ix2 r d := ⟨z 0, z 1, ValueIdx.eq_ix2 z⟩
    refine Eq.trans ?_ (congrArg (· * (((Real.sqrt 128)⁻¹ : ℝ) : EReal)) (turned2_at _ _ _ _ r _ 0 d ?_ ?_)).symm
    · pointwise [k0_pay15]
      simp only [pay22_apply, pay13_apply, pay14_apply, pay8_apply, pay26_apply, pay11_pair, hP, named_scale]
      refine congrArg (· * (((Real.sqrt 128)⁻¹ : ℝ) : EReal)) ?_
      exact rope_eq (fun d => lin (rd x0) (rd x1) r ⟨d.val, by omega⟩) swap rfl ⟨2 * (pair i).val + (0 : Fin 2).val, by omega⟩ r d _ (angle_eq ⟨2 * (pair i).val + (0 : Fin 2).val, by omega⟩ r d)
    · rw [ValueKit.rect_emb_unit_val]; exact Nat.zero_add _
    · rw [ValueKit.rect_emb_unit_val]; rfl

/-- One block of the key array. -/
theorem block0_k (hP : ∀ k d, x4 (ix2 k d) = swap k d) (y : S2048x256.Idx) :
    out0_6 (F := Ideal) i x0 x1 x2 x3 x4 y = turned2 (rd x0) (rd x2) (pair i) (y 0) (y 1) := by
  unfold out0_6
  refine View.canon_apply_of_pieces (Val := Elt Ideal) (e := .bf16) (fun y : S2048x256.Idx => turned2 (rd x0) (rd x2) (pair i) (y 0) (y 1)) _ ?_ y (cover0_6 _ _ y)
  simp only [List.mem_cons, List.not_mem_nil, or_false, forall_eq_or_imp, forall_eq]
  constructor
  · intro z
    obtain ⟨r, d, rfl⟩ : ∃ r d, z = ix2 r d := ⟨z 0, z 1, ValueIdx.eq_ix2 z⟩
    refine Eq.trans ?_ ((turned2_at _ _ _ _ r _ 1 d ?_ ?_)).symm
    · pointwise [k0_pay2]
      simp only [pay23_apply, pay28_apply, pay29_apply, pay8_apply, hP]
      exact rope_eq (fun d => lin (rd x0) (rd x2) r ⟨128 + d.val, by omega⟩) swap rfl ⟨2 * (pair i).val + (1 : Fin 2).val, by omega⟩ r d _ (angle_eq ⟨2 * (pair i).val + (1 : Fin 2).val, by omega⟩ r d)
    · rw [ValueKit.rect_emb_unit_val]; exact Nat.zero_add _
    · rw [ValueKit.rect_emb_unit_val]; rfl
  · intro z
    obtain ⟨r, d, rfl⟩ : ∃ r d, z = ix2 r d := ⟨z 0, z 1, ValueIdx.eq_ix2 z⟩
    refine Eq.trans ?_ ((turned2_at _ _ _ _ r _ 0 d ?_ ?_)).symm
    · pointwise [k0_pay16]
      simp only [pay23_apply, pay13_apply, pay14_apply, pay8_apply, pay26_apply, pay11_pair, hP]
      exact rope_eq (fun d => lin (rd x0) (rd x2) r ⟨d.val, by omega⟩) swap rfl ⟨2 * (pair i).val + (0 : Fin 2).val, by omega⟩ r d _ (angle_eq ⟨2 * (pair i).val + (0 : Fin 2).val, by omega⟩ r d)
    · rw [ValueKit.rect_emb_unit_val]; exact Nat.zero_add _
    · rw [ValueKit.rect_emb_unit_val]; rfl

/-- A pair of heads' values: each head's lanes, then a lane of ones, then zeros. -/
def values2 (x : Mat 2048) (w : Mat 256) (r : Fin 2048) (n : Fin 512) : EReal :=
  if h : n.val % 256 < 128 then lin x w r ⟨128 * (n.val / 256) + n.val % 256, by have := n.isLt; omega⟩
  else if n.val % 256 = 128 then 1 else 0

theorem values2_lo (x : Mat 2048) (w : Mat 256) (a r : Fin 2048) (n : Fin 512) (s : Fin 2) (d : Fin 128)
    (ha : a.val = r.val) (hn : n.val = 256 * s.val + d.val) :
    values2 x w a n = lin x w r ⟨128 * s.val + d.val, by have := s.isLt; have := d.isLt; omega⟩ := by
  have h1 : n.val / 256 = s.val := by have := d.isLt; omega
  have h2 : n.val % 256 = d.val := by have := d.isLt; omega
  obtain rfl := Fin.ext ha
  unfold values2
  simp only [h1, h2, d.isLt, dite_true]

theorem values2_hi (x : Mat 2048) (w : Mat 256) (a : Fin 2048) (n : Fin 512) (s : Fin 2) (d : Fin 128)
    (hn : n.val = 256 * s.val + 128 + d.val) : values2 x w a n = if d.val = 0 then 1 else 0 := by
  have := d.isLt
  unfold values2
  rw [dif_neg (by omega)]
  exact if_congr (by omega) rfl rfl

theorem pay27_apply (r : Fin 2048) (d : Fin 128) : k0_pay27 (F := Ideal) i x0 x1 x2 x3 x4 (ix2 r d) = if d.val = 0 then (1 : EReal) else 0 := by
  unfold k0_pay27
  rw [pay10_apply]

/-- One block of the value array. -/
theorem block0_v (y : S2048x512.Idx) :
    out0_7 (F := Ideal) i x0 x1 x2 x3 x4 y = values2 (rd x0) (rd x3) (y 0) (y 1) := by
  unfold out0_7
  refine View.canon_apply_of_pieces (Val := Elt Ideal) (e := .bf16) (fun y : S2048x512.Idx => values2 (rd x0) (rd x3) (y 0) (y 1)) _ ?_ y (cover0_7 _ _ _ _ y)
  simp only [List.mem_cons, List.not_mem_nil, or_false, forall_eq_or_imp, forall_eq]
  refine ⟨?_, ?_, ?_, ?_⟩ <;> intro z <;>
    obtain ⟨r, d, rfl⟩ : ∃ r d, z = ix2 r d := ⟨z 0, z 1, ValueIdx.eq_ix2 z⟩
  · refine Eq.trans (pay27_apply i x0 x1 x2 x3 x4 r d) (values2_hi _ _ _ _ 1 d ?_).symm
    rw [ValueKit.rect_emb_unit_val]; rfl
  · refine Eq.trans ?_ (values2_lo _ _ _ r _ 1 d ?_ ?_).symm
    · pointwise [k0_pay3]
      rw [pay24_apply]
    · rw [ValueKit.rect_emb_unit_val]; exact Nat.zero_add _
    · rw [ValueKit.rect_emb_unit_val]; rfl
  · refine Eq.trans (pay27_apply i x0 x1 x2 x3 x4 r d) (values2_hi _ _ _ _ 0 d ?_).symm
    rw [ValueKit.rect_emb_unit_val]; rfl
  · refine Eq.trans ?_ (values2_lo _ _ _ r _ 0 d ?_ ?_).symm
    · pointwise [k0_pay17]
      rw [pay24_apply]
    · rw [ValueKit.rect_emb_unit_val]; exact Nat.zero_add _
    · rw [ValueKit.rect_emb_unit_val]; rfl

end Cert.Attn

end
-- ==== Proof.Array0.lean ====
/- The first region: the query, key and value arrays it leaves. -/
module

public import proofs.«01_k».proof.Proof.Block0

@[expose] public section

set_option maxRecDepth 16384

noncomputable section

namespace Cert.Attn

open Cert.KernelIdeal Cert.KernelIdeal.Gen Idealize.ShloMosaic Idealize.ShloMosaic.TcCoe

/-- A pair's turned block is the turned array's at the pair's columns. -/
theorem turned2_eq (x X : Mat 2048) (w : Mat 256) (W : Mat 2048) (g : Fin 8) (r a : Fin 2048) (n : Fin 256) (c : Fin 2048)
    (hx : x = X) (hw : ∀ k (n : Fin 256), w k n = W k ⟨256 * g.val + n.val, by have := g.isLt; have := n.isLt; omega⟩)
    (ha : a.val = r.val) (hc : c.val = 256 * g.val + n.val) : turned2 x w g r n = turned X W a c := by
  obtain rfl := Fin.ext ha
  subst hx
  have hn := n.isLt
  have h1 : head c = ⟨2 * g.val + n.val / 128, by have := g.isLt; omega⟩ := Fin.ext (by show c.val / 128 = 2 * g.val + n.val / 128; omega)
  have h2 : lane c = ⟨n.val % 128, by omega⟩ := Fin.ext (by show c.val % 128 = n.val % 128; omega)
  have h3 : ∀ d : Fin 128, lin x W a (col (head c) d) = lin x w a ⟨128 * (n.val / 128) + d.val, by have := d.isLt; omega⟩ := fun d =>
    Finset.sum_congr rfl fun k _ => congrArg (x a k * ·) (by
      rw [hw]
      refine congrArg (W k) (Fin.ext ?_)
      show 128 * (c.val / 128) + d.val = 256 * g.val + (128 * (n.val / 128) + d.val)
      omega)
  rw [h1] at h3
  unfold turned turned2
  simp only [h1, h2, h3]

/-- A pair's value block is the value array's at the pair's columns. -/
theorem values2_eq (x X : Mat 2048) (w : Mat 256) (W : Mat 2048) (g : Fin 8) (r a : Fin 2048) (n : Fin 512) (c : Fin 4096)
    (hx : x = X) (hw : ∀ k (n : Fin 256), w k n = W k ⟨256 * g.val + n.val, by have := g.isLt; have := n.isLt; omega⟩)
    (ha : a.val = r.val) (hc : c.val = 512 * g.val + n.val) : values2 x w r n = varr X W a c := by
  obtain rfl := Fin.ext ha
  subst hx
  have hn := n.isLt
  have h1 : c.val % 256 = n.val % 256 := by omega
  unfold values2 varr
  by_cases h : n.val % 256 < 128
  · rw [dif_pos h, dif_pos (by omega)]
    refine Finset.sum_congr rfl fun k _ => congrArg (x a k * ·) ?_
    rw [hw]
    refine congrArg (W k) (Fin.ext ?_)
    show 256 * g.val + (128 * (n.val / 256) + n.val % 256) = 128 * (c.val / 256) + c.val % 256
    omega
  · rw [dif_neg h, dif_neg (by omega), h1]

variable (V : (c : Dev nD) → (b : Ref sig .tc) → Buf (Elt Ideal) ((c : Thread nD τ).loc b))

theorem index0_0 : ∀ t : Fin cfg0.N, win0_0.index t = ![0, 0] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, t.val] := (by decide +kernel : ∀ t : Fin grid0.N, _)
theorem index0_3 : ∀ t : Fin cfg0.N, win0_3.index t = ![0, t.val] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, t.val] := (by decide +kernel : ∀ t : Fin grid0.N, _)
theorem index0_6 : ∀ t : Fin cfg0.N, win0_6.index t = ![0, t.val] := (by decide +kernel : ∀ t : Fin grid0.N, _)
theorem index0_7 : ∀ t : Fin cfg0.N, win0_7.index t = ![0, t.val] := (by decide +kernel : ∀ t : Fin grid0.N, _)
theorem pair_coords : ∀ t : Fin cfg0.N, (pair (grid0.coords t)).val = t.val := (by decide +kernel : ∀ t : Fin grid0.N, _)

theorem blk0_0 (c : Dev nD) (t : Fin cfg0.N) : rd (iblk0 (F := Ideal) V c 0 t) = rd (V c main_v0) := by
  funext r k
  unfold rd
  blk_simp [iblk0, index0_0]
  refine congrArg (V c main_v0) ?_
  blk_ext [index0_0]

theorem blk0_1 (c : Dev nD) (t : Fin cfg0.N) (k : Fin 2048) (n : Fin 256) :
    rd (iblk0 (F := Ideal) V c 1 t) k n = rd (V c main_arg2) k ⟨256 * (pair (grid0.coords t)).val + n.val, by omega⟩ := by
  have hp : (pair (grid0.coords t)).val = t.val := pair_coords t
  unfold rd
  blk_simp [iblk0, index0_1]
  refine congrArg (V c main_arg2) ?_
  blk_ext [index0_1]

theorem blk0_2 (c : Dev nD) (t : Fin cfg0.N) (k : Fin 2048) (n : Fin 256) :
    rd (iblk0 (F := Ideal) V c 2 t) k n = rd (V c main_arg3) k ⟨256 * (pair (grid0.coords t)).val + n.val, by omega⟩ := by
  have hp : (pair (grid0.coords t)).val = t.val := pair_coords t
  unfold rd
  blk_simp [iblk0, index0_2]
  refine congrArg (V c main_arg3) ?_
  blk_ext [index0_2]

theorem blk0_3 (c : Dev nD) (t : Fin cfg0.N) (k : Fin 2048) (n : Fin 256) :
    rd (iblk0 (F := Ideal) V c 3 t) k n = rd (V c main_arg4) k ⟨256 * (pair (grid0.coords t)).val + n.val, by omega⟩ := by
  have hp : (pair (grid0.coords t)).val = t.val := pair_coords t
  unfold rd
  blk_simp [iblk0, index0_3]
  refine congrArg (V c main_arg4) ?_
  blk_ext [index0_3]

theorem blk0_4 (c : Dev nD) (t : Fin cfg0.N) (k d : Fin 128) :
    iblk0 (F := Ideal) V c 4 t (ix2 k d) = V c main_v11 (ix2 k d) := by
  blk_simp [iblk0, index0_4]
  refine congrArg (V c main_v11) ?_
  blk_ext [index0_4]

variable (hP : ∀ c k d, V c main_v11 (ix2 k d) = swap k d)
include hP

/-- The query array after the region. -/
theorem array0_q (c : Dev nD) :
    (dat0 (F := Ideal) V c).arrAt 5 cfg0.N = wr (qarr (rd (V c main_v0)) (rd (V c main_arg2))) := by
  refine (dat0 V c).arrAt_eq_of_covers 5 _ (by decide +kernel) fun t hf y => ?_
  have hp : (pair (grid0.coords t)).val = t.val := pair_coords t
  blk_simp
  rw [after0_5]
  refine (block0_q _ _ _ _ _ _ (fun k d => (blk0_4 V c t k d).trans (hP c k d)) y).trans (congrArg (· * (((Real.sqrt 128)⁻¹ : ℝ) : EReal)) ?_)
  refine turned2_eq _ _ _ _ _ _ _ _ _ (blk0_0 V c t) (blk0_1 V c t) ?_ ?_
  · blk_simp [index0_5]
  · blk_simp [index0_5]
    omega

/-- The key array after the region. -/
theorem array0_k (c : Dev nD) :
    (dat0 (F := Ideal) V c).arrAt 6 cfg0.N = wr (turned (rd (V c main_v0)) (rd (V c main_arg3))) := by
  refine (dat0 V c).arrAt_eq_of_covers 6 _ (by decide +kernel) fun t hf y => ?_
  have hp : (pair (grid0.coords t)).val = t.val := pair_coords t
  blk_simp
  rw [after0_6]
  refine (block0_k _ _ _ _ _ _ (fun k d => (blk0_4 V c t k d).trans (hP c k d)) y).trans ?_
  refine turned2_eq _ _ _ _ _ _ _ _ _ (blk0_0 V c t) (blk0_2 V c t) ?_ ?_
  · blk_simp [index0_6]
  · blk_simp [index0_6]
    omega

omit hP in
/-- The value array after the region. -/
theorem array0_v (c : Dev nD) :
    (dat0 (F := Ideal) V c).arrAt 7 cfg0.N = wr (varr (rd (V c main_v0)) (rd (V c main_arg4))) := by
  refine (dat0 V c).arrAt_eq_of_covers 7 _ (by decide +kernel) fun t hf y => ?_
  have hp : (pair (grid0.coords t)).val = t.val := pair_coords t
  blk_simp
  rw [after0_7]
  refine (block0_v _ _ _ _ _ _ y).trans ?_
  refine values2_eq _ _ _ _ _ _ _ _ _ (blk0_0 V c t) (blk0_3 V c t) ?_ ?_
  · blk_simp [index0_7]
  · blk_simp [index0_7]
    omega

end Cert.Attn

end
-- ==== Proof.Block1.lean ====
/- The second region's body: what its block holds at an index. -/
module

public import proofs.«01_k».proof.Proof.Gen.KernelIdeal.Frame
public import proofs.«01_k».proof.Proof.Spec
public import proofs.«01_k».proof.Proof.Consts
public import Idealize.ShloMosaic.Lib.Pointwise
public import Idealize.ShloMosaic.Lib.Pipeline.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

/-- What a block of keys off the diagonal adds. -/
theorem pay4_apply (v0 : Vec Ideal S1024x128 .bf16) (acc : FVec Ideal S1024x256 .f32) (k : Vec Ideal S1024x128 .bf16) (v : Vec Ideal S1024x256 .bf16)
    (r : Fin 1024) (n : Fin 256) :
    k1_pay4 (F := Ideal) v0 acc k v (ix2 r n) = acc (ix2 r n) +
      ∑ j : Fin 1024, Ideal.exp (∑ d : Fin 128, v0 (ix2 r d) * k (ix2 j d)) * v (ix2 j n) := by
  pointwise [k1_pay4, k1_pay2]

theorem toInt_key : ∀ (b : Fin 2) (j : Fin 1024),
    (IntOp.addi (Scalar.muli (Scalar.addi (Scalar.muli (BitVec.ofNat 32 b.val) 1#32) 0#32) 1024#32) (BitVec.ofNat 32 j.val)).toInt = ((1024 * b.val + j.val : ℕ) : ℤ) := by
  decide +kernel

theorem toInt_query : ∀ (b : Fin 2) (r : Fin 1024),
    (IntOp.addi (Scalar.muli (BitVec.ofNat 32 b.val) 1024#32) (BitVec.ofNat 32 r.val)).toInt = ((1024 * b.val + r.val : ℕ) : ℤ) := by
  decide +kernel

/-- The comparison the diagonal block is masked by. -/
theorem mask_bit (b : Fin 2) (r j : Fin 1024) :
    IntOp.cmpi CmpIPredicate.sle (IntOp.addi (Scalar.muli (Scalar.addi (Scalar.muli (BitVec.ofNat 32 b.val) 1#32) 0#32) 1024#32) (BitVec.ofNat 32 j.val))
      (IntOp.addi (Scalar.muli (BitVec.ofNat 32 b.val) 1024#32) (BitVec.ofNat 32 r.val)) = if j.val ≤ r.val then 1#1 else 0#1 := by
  show BitVec.ofBool (BitVec.sle _ _) = _
  rw [BitVec.sle, toInt_key, toInt_query]
  by_cases h : j.val ≤ r.val
  · rw [if_pos h, decide_eq_true (by omega)]; rfl
  · rw [if_neg h, decide_eq_false (by omega)]; rfl

/-- What the diagonal block adds. -/
theorem step_apply (i : grid1.Coords) (v0 : Vec Ideal S1024x128 .bf16) (acc : FVec Ideal S1024x256 .f32) (k : Vec Ideal S1024x128 .bf16) (v : Vec Ideal S1024x256 .bf16)
    (r : Fin 1024) (n : Fin 256) :
    k1_pay6 (F := Ideal) i v0 acc k v (ix2 r n) = acc (ix2 r n) +
      ∑ j : Fin 1024, (if j.val ≤ r.val then Ideal.exp (∑ d : Fin 128, v0 (ix2 r d) * k (ix2 j d)) else 0) * v (ix2 j n) := by
  pointwise [k1_pay6, k1_pay2]
  refine congrArg (acc (ix2 r n) + ·) (Finset.sum_congr rfl fun j _ => ?_)
  refine (congrArg (fun b => Scalar.select b _ _) (mask_bit (i 1) r j)).trans ?_
  by_cases h : j.val ≤ r.val
  · rw [if_pos h, if_pos h]; rfl
  · rw [if_neg h, if_neg h, zero_mul]; rfl

/-- The quotient of the two slices. -/
theorem pay1_apply (i : grid1.Coords) (v0 : Vec Ideal S1024x128 .bf16) (acc : FVec Ideal S1024x256 .f32) (k : Vec Ideal S1024x128 .bf16) (v : Vec Ideal S1024x256 .bf16)
    (r : Fin 1024) (d : Fin 128) :
    k1_pay1 (F := Ideal) (k1_pay7 i v0 acc k v) (k1_pay8 i v0 acc k v) (ix2 r d) =
      Ideal.div (k1_pay6 (F := Ideal) i v0 acc k v (ix2 r ⟨d.val, by omega⟩)) (k1_pay6 (F := Ideal) i v0 acc k v (ix2 r 128)) := by
  pointwise [k1_pay1, k1_pay7, k1_pay8]

variable (c : Dev nD) (i : grid1.Coords) (arg2 : Memref sig .tc .vmem S1024x128 .bf16) (harg2 : arg2.IsWhole) (arg3 : Memref sig .tc .vmem S2048x128 .bf16) (harg3 : arg3.IsWhole)
  (arg4 : Memref sig .tc .vmem S2048x256 .bf16) (harg4 : arg4.IsWhole) (arg5 : Memref sig .tc .vmem S1024x128 .bf16) (harg5 : arg5.IsWhole)
  (x0 : Vec Ideal S1024x128 .bf16) (x1 : Vec Ideal S2048x128 .bf16) (x2 : Vec Ideal S2048x256 .bf16)

theorem trip_eq (bd) (k : Fin (k1_t1_loop i).trips) (acc : FVec Ideal S1024x256 .f32) :
    tripR_k1_t1 (F := Ideal) Variants.none c bd i arg2 harg2 arg3 harg3 arg4 harg4 arg5 harg5 x0 (harg3.unread x1) (harg4.unread x2) k acc =
      k1_pay4 x0 acc (View.ld x1 (Rect.unit (s := S2048x128) (k1_off1 i k) S1024x128.size (k1_off1_inb i k)))
        (View.ld x2 (Rect.unit (s := S2048x256) (k1_off2 i k) S1024x256.size (k1_off2_inb i k))) := by
  unfold tripR_k1_t1 trip_k1_t1
  dsimp only
  rw [View.readAt_eq_ld, View.readAt_eq_ld, harg3.read_unread, harg4.read_unread]

theorem trips1 : ∀ i : grid1.Coords, (k1_t1_loop i).trips = (i 1).val := by decide +kernel
theorem trips2 : ∀ i : grid1.Coords, (k1_t2_loop i).trips = 0 := by decide +kernel

/-- A block of the keys read at an index. -/
theorem ld_keys (b : Fin 2) (off : Fin 2 → ℕ) (h : off = ![1024 * b.val, 0]) (inb) (j : Fin 1024) (d : Fin 128) :
    View.ld x1 (Rect.unit (s := S2048x128) off S1024x128.size inb) (ix2 j d) = x1 (ix2 ⟨1024 * b.val + j.val, by omega⟩ d) := by
  subst h
  refine congrArg x1 (Shape.idx_ext₂ ?_ ?_)
  · exact ValueKit.rect_emb_unit_val _ _ _ _ _
  · exact (ValueKit.rect_emb_unit_val _ _ _ _ _).trans (Nat.zero_add _)

/-- A block of the values read at an index. -/
theorem ld_values (b : Fin 2) (off : Fin 2 → ℕ) (h : off = ![1024 * b.val, 0]) (inb) (j : Fin 1024) (n : Fin 256) :
    View.ld x2 (Rect.unit (s := S2048x256) off S1024x256.size inb) (ix2 j n) = x2 (ix2 ⟨1024 * b.val + j.val, by omega⟩ n) := by
  subst h
  refine congrArg x2 (Shape.idx_ext₂ ?_ ?_)
  · exact ValueKit.rect_emb_unit_val _ _ _ _ _
  · exact (ValueKit.rect_emb_unit_val _ _ _ _ _).trans (Nat.zero_add _)

/-- The exponential of a query's score with a key. -/
def escore (r : Fin 1024) (j : Fin 2048) : EReal := Ideal.exp (∑ d : Fin 128, x0 (ix2 r d) * x1 (ix2 j d))

/-- What the loop over the blocks before the diagonal has summed. -/
theorem loop_apply (b : Fin 2) (hb : (i 1).val = b.val) (bd) (r : Fin 1024) (n : Fin 256) :
    st_k1_t1 (F := Ideal) Variants.none c bd i arg2 harg2 arg3 harg3 arg4 harg4 arg5 harg5 x0 (harg3.unread x1) (harg4.unread x2) k1_pay3 b.val (ix2 r n) =
      if b.val = 0 then 0 else ∑ j : Fin 1024, escore x0 x1 r ⟨j.val, by omega⟩ * x2 (ix2 ⟨j.val, by omega⟩ n) := by
  have h3 : k1_pay3 (F := Ideal) (ix2 r n) = 0 := by pointwise [k1_pay3]
  match b, hb with
  | ⟨0, _⟩, _ => exact h3
  | ⟨1, _⟩, hb =>
    have ht : 0 < (k1_t1_loop i).trips := by rw [trips1, hb]; exact Nat.one_pos
    have e := st_k1_t1_succ (F := Ideal) Variants.none c bd i arg2 harg2 arg3 harg3 arg4 harg4 arg5 harg5 x0 (harg3.unread x1) (harg4.unread x2) k1_pay3 ⟨0, ht⟩
    refine (congrFun e (ix2 r n)).trans ?_
    rw [trip_eq, pay4_apply, if_neg Nat.one_ne_zero]
    refine (congrArg₂ (· + ·) h3 rfl).trans ((zero_add _).trans (Finset.sum_congr rfl fun j _ => ?_))
    rw [ld_values _ 0 _ (k1_off2_eq i ⟨0, ht⟩)]
    refine congrArg₂ (· * ·) (congrArg Ideal.exp (Finset.sum_congr rfl fun d _ => ?_)) ?_
    · rw [ld_keys _ 0 _ (k1_off1_eq i ⟨0, ht⟩)]
      refine congrArg (x0 (ix2 r d) * x1 ·) (Shape.idx_ext₂ ?_ ?_)
      · exact Nat.zero_add _
      · rfl
    · refine congrArg x2 (Shape.idx_ext₂ ?_ ?_)
      · exact Nat.zero_add _
      · rfl

/-- The masked weighted sum a block of queries takes over all keys. -/
def bsum (b : Fin 2) (r : Fin 1024) (n : Fin 256) : EReal :=
  ∑ j : Fin 2048, (if j.val ≤ 1024 * b.val + r.val then escore x0 x1 r j else 0) * x2 (ix2 j n)

theorem bsum_split (b : Fin 2) (r : Fin 1024) (n : Fin 256) :
    (if b.val = 0 then 0 else ∑ j : Fin 1024, escore x0 x1 r ⟨j.val, by omega⟩ * x2 (ix2 ⟨j.val, by omega⟩ n)) +
      ∑ j : Fin 1024, (if j.val ≤ r.val then escore x0 x1 r ⟨1024 * b.val + j.val, by omega⟩ else 0) * x2 (ix2 ⟨1024 * b.val + j.val, by omega⟩ n) =
      bsum x0 x1 x2 b r n := by
  have hs := Fin.sum_univ_add (a := 1024) (b := 1024) (fun j : Fin 2048 => (if j.val ≤ 1024 * b.val + r.val then escore x0 x1 r j else 0) * x2 (ix2 j n))
  refine Eq.trans ?_ hs.symm
  match b with
  | ⟨0, _⟩ =>
    rw [if_pos rfl, zero_add]
    refine (add_zero _).symm.trans (congrArg₂ (· + ·) (Finset.sum_congr rfl fun j _ => ?_) (Finset.sum_eq_zero fun j _ => ?_).symm)
    · have e : (⟨1024 * 0 + j.val, by omega⟩ : Fin 2048) = Fin.castAdd 1024 j := Fin.ext (by show 1024 * 0 + j.val = j.val; omega)
      show (if j.val ≤ r.val then escore x0 x1 r ⟨1024 * 0 + j.val, _⟩ else 0) * x2 (ix2 ⟨1024 * 0 + j.val, _⟩ n) = _
      rw [e]
      refine congrArg (· * _) (if_congr ?_ rfl rfl)
      show _ ↔ j.val ≤ 1024 * 0 + r.val
      omega
    · rw [if_neg, zero_mul]
      show ¬ (1024 + j.val ≤ 1024 * 0 + r.val)
      have := r.isLt
      omega
  | ⟨1, _⟩ =>
    rw [if_neg Nat.one_ne_zero]
    refine congrArg₂ (· + ·) (Finset.sum_congr rfl fun j _ => ?_) (Finset.sum_congr rfl fun j _ => ?_)
    · rw [if_pos (by show j.val ≤ 1024 * 1 + r.val; have := j.isLt; omega)]
      rfl
    · refine congrArg (· * _) (if_congr ?_ rfl rfl)
      show _ ↔ 1024 + j.val ≤ 1024 * 1 + r.val
      omega

/-- The block the body leaves, at an index. -/
theorem block1 (b : Fin 2) (hb : (i 1).val = b.val) (y : S1024x128.Idx) :
    out1_A_3 (F := Ideal) c i arg2 harg2 arg3 harg3 arg4 harg4 arg5 harg5 x0 x1 x2 y =
      Ideal.div (bsum x0 x1 x2 b (y 0) ⟨(y 1).val, lt_of_lt_of_le (y 1).isLt (by decide)⟩) (bsum x0 x1 x2 b (y 0) 128) := by
  obtain ⟨r, d, rfl⟩ : ∃ r d, y = ix2 r d := ⟨y 0, y 1, ValueIdx.eq_ix2 y⟩
  have key : ∀ n : Fin 256, k1_pay6 (F := Ideal) i x0
      (st_k1_t2 Variants.none c none i arg2 harg2 arg3 harg3 arg4 harg4 arg5 harg5 x0 (harg3.unread x1) (harg4.unread x2)
        (st_k1_t1 Variants.none c none i arg2 harg2 arg3 harg3 arg4 harg4 arg5 harg5 x0 (harg3.unread x1) (harg4.unread x2) k1_pay3 (k1_t1_loop i).trips) (k1_t2_loop i).trips)
      (View.ld x1 (Rect.unit (s := S2048x128) (k1_off5 i) S1024x128.size (k1_off5_inb i)))
      (View.ld x2 (Rect.unit (s := S2048x256) (k1_off6 i) S1024x256.size (k1_off6_inb i))) (ix2 r n) = bsum x0 x1 x2 b r n := by
    intro n
    rw [step_apply, trips1, trips2, hb, st_k1_t2_zero, loop_apply c i _ _ _ _ _ _ _ _ _ _ _ b hb, ← bsum_split]
    refine congrArg₂ (· + ·) rfl (Finset.sum_congr rfl fun j _ => ?_)
    rw [ld_values _ b _ ((k1_off6_eq i).trans (by rw [hb]))]
    refine congrArg (· * _) (if_congr Iff.rfl (congrArg Ideal.exp (Finset.sum_congr rfl fun d _ => ?_)) rfl)
    rw [ld_keys _ b _ ((k1_off5_eq i).trans (by rw [hb]))]
  unfold out1_A_3
  rw [View.read_writes_junk_eq_canon]
  unfold kernelRun1_A
  dsimp only
  rw [View.canon_unit_zero (S := S1024x128) (by decide)]
  unfold kernelRun1_A.sl.r kernelRun1_A.sl.r_1
  rw [View.readAt_eq_ld, View.readAt_eq_ld, View.readAt_eq_ld, harg2.read_unread, harg3.read_unread, harg4.read_unread,
    View.ld_unit_zero (S := S1024x128) (by decide), pay1_apply]
  exact congrArg₂ Ideal.div (key _) (key _)

end Cert.Attn

end
-- ==== Proof.Array1.lean ====
/- The second region: the attention array it leaves. -/
module

public import proofs.«01_k».proof.Proof.Block1

@[expose] public section

set_option maxRecDepth 16384

noncomputable section

namespace Cert.Attn

open Cert.KernelIdeal Cert.KernelIdeal.Gen Idealize.ShloMosaic Idealize.ShloMosaic.TcCoe

variable (V : (c : Dev nD) → (b : Ref sig .tc) → Buf (Elt Ideal) ((c : Thread nD τ).loc b))

/-- The head a grid point works on, and its half of the queries. -/
def gridHead (t : Fin grid1.N) : Fin 16 := grid1.coords t 0
def gridHalf (t : Fin grid1.N) : Fin 2 := grid1.coords t 1

theorem index1_0 : ∀ t : Fin cfg1.N, win1_0.index t = ![(gridHalf t).val, (gridHead t).val] := (by decide +kernel : ∀ t : Fin grid1.N, _)
theorem index1_1 : ∀ t : Fin cfg1.N, win1_1.index t = ![0, (gridHead t).val] := (by decide +kernel : ∀ t : Fin grid1.N, _)
theorem index1_2 : ∀ t : Fin cfg1.N, win1_2.index t = ![0, (gridHead t).val] := (by decide +kernel : ∀ t : Fin grid1.N, _)
theorem index1_3 : ∀ t : Fin cfg1.N, win1_3.index t = ![(gridHalf t).val, (gridHead t).val] := (by decide +kernel : ∀ t : Fin grid1.N, _)

theorem blk1_0 (c : Dev nD) (t : Fin cfg1.N) (r : Fin 1024) (d : Fin 128) :
    iblk1 (F := Ideal) V c 0 t (ix2 r d) = rd (V c main_v12_0) ⟨1024 * (gridHalf t).val + r.val, by omega⟩ (col (gridHead t) d) := by
  unfold rd col
  blk_simp [iblk1, index1_0]
  refine congrArg (V c main_v12_0) ?_
  blk_ext [index1_0]

theorem blk1_1 (c : Dev nD) (t : Fin cfg1.N) (r : Fin 2048) (d : Fin 128) :
    iblk1 (F := Ideal) V c 1 t (ix2 r d) = rd (V c main_v12_1) r (col (gridHead t) d) := by
  unfold rd col
  blk_simp [iblk1, index1_1]
  refine congrArg (V c main_v12_1) ?_
  blk_ext [index1_1]

theorem blk1_2 (c : Dev nD) (t : Fin cfg1.N) (r : Fin 2048) (d : Fin 256) :
    iblk1 (F := Ideal) V c 2 t (ix2 r d) = rd (V c main_v12_2) r (vcol (gridHead t) d) := by
  unfold rd vcol
  blk_simp [iblk1, index1_2]
  refine congrArg (V c main_v12_2) ?_
  blk_ext [index1_2]

/-- A block's masked sum is the array's weighted sum at the block's row. -/
theorem bsum_eq (c : Dev nD) (t : Fin cfg1.N) (r : Fin 1024) (n : Fin 256) :
    bsum (iblk1 (F := Ideal) V c 0 t) (iblk1 (F := Ideal) V c 1 t) (iblk1 (F := Ideal) V c 2 t) (gridHalf t) r n =
      wsum (rd (V c main_v12_0)) (rd (V c main_v12_1)) (rd (V c main_v12_2)) (gridHead t) ⟨1024 * (gridHalf t).val + r.val, by omega⟩ n := by
  unfold bsum wsum weight escore
  refine Finset.sum_congr rfl fun j _ => congrArg₂ (· * ·) (if_congr Iff.rfl (congrArg Ideal.exp (Finset.sum_congr rfl fun d _ => ?_)) rfl) (blk1_2 V c t j n)
  rw [blk1_0, blk1_1]

/-- The array after the region. -/
theorem array1 (c : Dev nD) :
    (dat1 (F := Ideal) V c).arrAt 3 cfg1.N = wr (attn (rd (V c main_v12_0)) (rd (V c main_v12_1)) (rd (V c main_v12_2))) := by
  refine (dat1 V c).arrAt_eq_of_covers 3 _ (by decide +kernel) fun t hf y => ?_
  blk_simp
  rw [after1_3]
  unfold outsAt1
  refine (block1 c _ _ _ _ _ _ _ _ _ _ _ _ (gridHalf t) rfl y).trans ?_
  refine (congrArg₂ Ideal.div (bsum_eq V c t (y 0) _) (bsum_eq V c t (y 0) 128)).trans ?_
  have h0 : ((win1_3.blk t).view.emb y 0).val = 1024 * (gridHalf t).val + (y 0).val := by
    blk_simp [index1_3]
    omega
  have h1 : ((win1_3.blk t).view.emb y 1).val = 128 * (gridHead t).val + (y 1).val := by
    blk_simp [index1_3]
    omega
  have hy : (y 1).val < 128 := (y 1).isLt
  have hh : head ((win1_3.blk t).view.emb y 1) = gridHead t := Fin.ext (by
    show ((win1_3.blk t).view.emb y 1).val / 128 = (gridHead t).val
    omega)
  have hl : (lane ((win1_3.blk t).view.emb y 1)).val = (y 1).val := by
    show ((win1_3.blk t).view.emb y 1).val % 128 = (y 1).val
    omega
  have hr : (win1_3.blk t).view.emb y 0 = (⟨1024 * (gridHalf t).val + (y 0).val, by have := (gridHalf t).isLt; have : (y 0).val < 1024 := (y 0).isLt; omega⟩ : Fin 2048) := Fin.ext h0
  unfold wr attn
  simp only [hh, hl, hr]

end Cert.Attn

end
-- ==== Proof.Array2.lean ====
/- The last region: the array it leaves is the product of its two inputs. -/
module

public import proofs.«01_k».proof.Proof.Gen.KernelIdeal.Frame
public import proofs.«01_k».proof.Proof.Spec
public import Idealize.ShloMosaic.Lib.Pointwise
public import Idealize.ShloMosaic.Lib.Pipeline.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

/-- One block: 512 rows of the product. -/
theorem block2 (x0 : Vec Ideal S512x2048 .bf16) (x1 : Vec Ideal S2048x2048 .f32) (y : S512x2048.Idx) :
    out2_2 (F := Ideal) x0 x1 y = ∑ k : Fin 2048, x0 (ix2 (y 0) k) * x1 (ix2 k (y 1)) := by
  obtain ⟨r, n, rfl⟩ : ∃ r n, y = ix2 r n := ⟨y 0, y 1, ValueIdx.eq_ix2 y⟩
  unfold out2_2
  rw [View.canon_unit_zero (S := S512x2048) (by decide),
    View.ld_unit_zero (S := S512x2048) (by decide), View.ld_unit_zero (S := S2048x2048) (by decide)]
  pointwise [k2_pay1]

variable (V : (c : Dev nD) → (b : Ref sig .tc) → Buf (Elt Ideal) ((c : Thread nD τ).loc b))

theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0] := (by decide +kernel : ∀ t : Fin grid2.N, _)

/-- The array after the region. -/
theorem array2 (c : Dev nD) :
    (dat2 (F := Ideal) V c).arrAt 2 cfg2.N = wr (lin (rd (V c main_v13)) (rd (V c main_arg5))) := by
  refine (dat2 V c).arrAt_eq_of_covers 2 _ (by decide +kernel) fun t hf y => ?_
  blk_simp
  rw [after2_2]
  simp only [wr, lin, rd]
  refine (block2 _ _ y).trans (Finset.sum_congr rfl fun k _ => congrArg₂ (· * ·) ?_ ?_)
  · blk_simp [iblk2, index2_0, index2_2]
    refine congrArg (V c main_v13) ?_
    blk_ext [index2_0, index2_2]
  · blk_simp [iblk2, index2_1, index2_2]
    refine congrArg (V c main_arg5) ?_
    blk_ext [index2_1, index2_2]

end Cert.Attn

end
-- ==== Proof.Host.lean ====
/- The host operations before the first region and after the last: the reshapes and the exchange matrix. -/
module

public import proofs.«01_k».proof.Proof.Gen.KernelIdeal.Frame
public import proofs.«01_k».proof.Proof.Block0
public import Idealize.ShloMosaic.Lib.StableHlo.RunRead
public import Idealize.ShloMosaic.Lib.Pointwise

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ) (ρ : Dev nD → PrngReg)

theorem cast_in (a : S1x2048x2048.Idx → EReal) (r k : Fin 2048) : shapeCast S2048x2048 a shapeCasts_S1x2048x2048_S2048x2048 (ix2 r k) = a (ix3 0 r k) := by
  pointwise []

theorem cast_out (a : S2048x2048.Idx → EReal) (r k : Fin 2048) : shapeCast S1x2048x2048 a shapeCasts_S2048x2048_S1x2048x2048 (ix3 0 r k) = a (ix2 r k) := by
  pointwise []

/-- The input's rows, as the first region reads them. -/
theorem host_x (c : Dev nD) : rd (V1 (F := Ideal) m ρ c main_v0) = fun r k => m ((c : Thread nD τ).loc main_arg0) (ix3 0 r k) := by
  funext r k
  show V1 (F := Ideal) m ρ c main_v0 (ix2 r k) = _
  unfold V1 W1
  after_reads_simp
  exact cast_in _ r k

theorem bit_eye : ∀ a b : Fin 64, IntOp.cmpi CmpIPredicate.eq (IntOp.addi (BitVec.ofNat 32 a.val) 0#32) (BitVec.ofNat 32 b.val) = if a.val = b.val then 1#1 else 0#1 := by
  decide +kernel

theorem eye_entry (a b : Fin 64) : FloatOps.uitofp (F := Ideal) FTy.bf16 (IntOp.cmpi CmpIPredicate.eq (IntOp.addi (BitVec.ofNat 32 a.val) 0#32) (BitVec.ofNat 32 b.val)) =
    if a.val = b.val then (1 : EReal) else 0 := by
  rw [bit_eye]
  split
  · show (((1#1).toNat : ℝ) : EReal) = 1
    simp
  · show (((0#1).toNat : ℝ) : EReal) = 0
    simp

theorem eye_10 (c : Dev nD) (a b : Fin 64) :
    @Eq EReal (StableHlo.upto (hostOps0 (F := Ideal)) (W0 m ρ c) 10 (Proc.devRef .tc main_v6) (ix2 a b)) (if a.val = b.val then 1 else 0) := by
  after_reads_simp
  pointwise []
  exact eye_entry a b

theorem zero_10 (c : Dev nD) (a b : Fin 64) :
    @Eq EReal (StableHlo.upto (hostOps0 (F := Ideal)) (W0 m ρ c) 10 (Proc.devRef .tc main_v7) (ix2 a b)) (0) := by
  after_reads_simp
  pointwise []

theorem neg_12 (c : Dev nD) (a b : Fin 64) :
    @Eq EReal (StableHlo.upto (hostOps0 (F := Ideal)) (W0 m ρ c) 12 (Proc.devRef .tc main_v9) (ix2 a b)) (if a.val = b.val then -1 else 0) := by
  after_reads_simp
  pointwise []
  refine (congrArg (- ·) (eye_entry a b)).trans ?_
  split
  · rfl
  · exact neg_zero

theorem zero_12 (c : Dev nD) (a b : Fin 64) :
    @Eq EReal (StableHlo.upto (hostOps0 (F := Ideal)) (W0 m ρ c) 12 (Proc.devRef .tc main_v7) (ix2 a b)) (0) := by
  after_reads_simp
  pointwise []

/-- Four quarters side by side and one over the other. -/
theorem quarters_apply (a b e f : S64x64.Idx → EReal) (k d : Fin 128) :
    (concatenate S128x128 0 [⟨S64x128, concatenate S64x128 1 [⟨S64x64, a⟩, ⟨S64x64, b⟩] concatenates_S64x64_S64x64_S64x128_d1⟩,
        ⟨S64x128, concatenate S64x128 1 [⟨S64x64, e⟩, ⟨S64x64, f⟩] concatenates_S64x64_S64x64_S64x128_d1⟩]
      concatenates_S64x128_S64x128_S128x128_d0 (ix2 k d) : EReal) =
    if hk : k.val < 64 then (if hd : d.val < 64 then a (ix2 ⟨k.val, hk⟩ ⟨d.val, hd⟩) else b (ix2 ⟨k.val, hk⟩ ⟨d.val - 64, by omega⟩))
    else (if hd : d.val < 64 then e (ix2 ⟨k.val - 64, by omega⟩ ⟨d.val, hd⟩) else f (ix2 ⟨k.val - 64, by omega⟩ ⟨d.val - 64, by omega⟩)) := by
  pointwise []

/-- The matrix the first region multiplies by exchanges the halves. -/
theorem host_p (c : Dev nD) (k d : Fin 128) : V1 (F := Ideal) m ρ c main_v11 (ix2 k d) = swap k d := by
  unfold V1 W1
  after_reads_simp
  refine (quarters_apply _ _ _ _ k d).trans ?_
  have hk := k.isLt
  have hd := d.isLt
  unfold swap
  split
  · split
    · rw [if_neg (by omega), if_neg (by omega)]
      exact zero_10 m ρ c _ _
    · refine (eye_10 m ρ c _ _).trans ?_
      rw [if_neg (show ¬ k.val = d.val + 64 by omega)]
      exact if_congr (by show k.val = d.val - 64 ↔ _; omega) rfl rfl
  · split
    · refine (neg_12 m ρ c _ _).trans ?_
      rw [if_neg (show ¬ d.val = k.val + 64 by omega)]
      exact if_congr (by show k.val - 64 = d.val ↔ _; omega) rfl rfl
    · rw [if_neg (by omega), if_neg (by omega)]
      exact zero_12 m ρ c _ _

/-- The result is the last region's array reshaped. -/
theorem host_out (c : Dev nD) (r k : Fin 2048) : W5 (F := Ideal) m ρ c (Proc.devRef .tc main_v15) (ix3 0 r k) = V4 (F := Ideal) m ρ c main_v14 (ix2 r k) := by
  unfold W5
  after_reads_simp
  exact cast_out _ r k

end Cert.Attn

end
-- ==== Proof.Value.lean ====
/- The kernel's result at an index, from its arguments. -/
module

public import proofs.«01_k».proof.Proof.Array0
public import proofs.«01_k».proof.Proof.Array1
public import proofs.«01_k».proof.Proof.Array2
public import proofs.«01_k».proof.Proof.Host

@[expose] public section

set_option maxRecDepth 16384

noncomputable section

namespace Cert.Attn

open Cert.KernelIdeal Cert.KernelIdeal.Gen Idealize.ShloMosaic Idealize.ShloMosaic.TcCoe

/-- The kernel's result from its input's rows and its weights. -/
def result (x wq wk wv wo : Mat 2048) : Mat 2048 := lin (attn (qarr x wq) (turned x wk) (varr x wv)) wo

variable (m : (ℓ : Loc nD τ sig) → Buf (Elt Ideal) ℓ) (ρ : Dev nD → PrngReg) (c : Dev nD)

/-- The input's rows and the weights. -/
def inX : Mat 2048 := fun r k => m ((c : Thread nD τ).loc main_arg0) (ix3 0 r k)
def inQ : Mat 2048 := rd (m ((c : Thread nD τ).loc main_arg2))
def inK : Mat 2048 := rd (m ((c : Thread nD τ).loc main_arg3))
def inV : Mat 2048 := rd (m ((c : Thread nD τ).loc main_arg4))
def inO : Mat 2048 := rd (m ((c : Thread nD τ).loc main_arg5))

theorem at_q : rd (V2 (F := Ideal) m ρ c main_v12_0) = qarr (inX m c) (inQ m c) := by
  refine (congrArg rd ((W2_arr m ρ c 5).trans (array0_q (V1 m ρ) (host_p m ρ) c))).trans ?_
  refine congrArg₂ qarr (host_x m ρ c) (congrArg rd ?_)
  exact W1_args m ρ c main_arg2 (by decide)

theorem at_k : rd (V2 (F := Ideal) m ρ c main_v12_1) = turned (inX m c) (inK m c) := by
  refine (congrArg rd ((W2_arr m ρ c 6).trans (array0_k (V1 m ρ) (host_p m ρ) c))).trans ?_
  refine congrArg₂ turned (host_x m ρ c) (congrArg rd ?_)
  exact W1_args m ρ c main_arg3 (by decide)

theorem at_v : rd (V2 (F := Ideal) m ρ c main_v12_2) = varr (inX m c) (inV m c) := by
  refine (congrArg rd ((W2_arr m ρ c 7).trans (array0_v (V1 m ρ) c))).trans ?_
  refine congrArg₂ varr (host_x m ρ c) (congrArg rd ?_)
  exact W1_args m ρ c main_arg4 (by decide)

theorem at_o : rd (V3 (F := Ideal) m ρ c main_v13) = attn (qarr (inX m c) (inQ m c)) (turned (inX m c) (inK m c)) (varr (inX m c) (inV m c)) := by
  refine (congrArg rd ((W3_arr m ρ c 3).trans (array1 (V2 m ρ) c))).trans ?_
  rw [at_q, at_k, at_v, rd_wr]

/-- The result at an index. -/
theorem kernel_value (r n : Fin 2048) :
    W5 (F := Ideal) m ρ c (Proc.devRef .tc main_v15) (ix3 0 r n) = result (inX m c) (inQ m c) (inK m c) (inV m c) (inO m c) r n := by
  refine (host_out m ρ c r n).trans ?_
  refine (congrFun ((W4_arr m ρ c 2).trans (array2 (V3 m ρ) c)) (ix2 r n)).trans ?_
  have e : rd (V3 (F := Ideal) m ρ c main_arg5) = inO m c := congrArg rd (W3_args m ρ c main_arg5 (by decide))
  rw [at_o, e]
  rfl

end Cert.Attn

end
-- ==== Proof.Pre.lean ====
/- What the precondition says: the input, the query weights and the key weights are finite, and the positions count the rows. -/
module

public import proofs.«01_k».proof.Pre_finite_at_arange
public import Idealize.ShloMosaic.Lib.ReduceAll
public import Idealize.ShloMosaic.PureOps.Ideal
public import Idealize.ShloMosaic.PureOps.Ideal.Laws
public import Idealize.ShloMosaic.Lib.Pointwise

@[expose] public section

set_option maxRecDepth 16384

noncomputable section

namespace Cert.Attn

open Cert.Pre_finite_at_arange Idealize.ShloMosaic

theorem pre_facts : Cert.Pre_finite_at_arange.Facts where
  bcast_S_S1x2048x2048 := by decide
  reducesTo_S1x2048x2048_S_d0_1_2 := by decide
  h_S_ := by decide
  bcast_S_S2048x2048 := by decide
  reducesTo_S2048x2048_S_d0_1 := by decide
  reducesTo_S1x2048_S_d0_1 := by decide

/-- A number below infinity in absolute value is real. -/
theorem real_of_abs (a : EReal) (h : Ideal.cmp .olt (max a (-a)) (Ideal.ofBits .f32 0x7F800000#32) = 1#1) : a ≠ ⊤ ∧ a ≠ ⊥ := by
  have e : Ideal.ofBits .f32 0x7F800000#32 = ⊤ := by simp [Ideal.ofBits, Ideal.ieee]
  rw [e] at h
  constructor
  · rintro rfl
    simp [Ideal.cmp] at h
  · rintro rfl
    simp [Ideal.cmp] at h

theorem andi_split (a b : BitVec 1) (h : IntOp.andi a b = 1#1) : a = 1#1 ∧ b = 1#1 := by
  revert a b; decide

variable [Cert.Pre_finite_at_arange.Facts]

theorem pre_split (x0 : FVec Ideal S1x2048x2048 .f32) (x1 : IVec S1x2048 32) (x2 x3 x4 x5 : FVec Ideal S2048x2048 .f32)
    (h : Cert.Pre_finite_at_arange.fn (F := Ideal) x0 x1 x2 x3 x4 x5 = fun _ => 1#1) :
    (∀ i, @Ne EReal (x0 i) ⊤ ∧ @Ne EReal (x0 i) ⊥) ∧ (∀ i, @Ne EReal (x2 i) ⊤ ∧ @Ne EReal (x2 i) ⊥) ∧
      (∀ i, @Ne EReal (x3 i) ⊤ ∧ @Ne EReal (x3 i) ⊥) ∧ ∀ i, x1 i = BitVec.ofNat 32 (i 1).val := by
  have e := congrFun h (fun a => a.elim0)
  obtain ⟨e, h1⟩ := andi_split _ _ e
  obtain ⟨e, h3⟩ := andi_split _ _ e
  obtain ⟨h0, h2⟩ := andi_split _ _ e
  refine ⟨fun i => real_of_abs _ (Host.reduce_andi_all _ _ _ _ _ h0 i), fun i => real_of_abs _ (Host.reduce_andi_all _ _ _ _ _ h2 i),
    fun i => real_of_abs _ (Host.reduce_andi_all _ _ _ _ _ h3 i), fun i => ?_⟩
  exact IntOp.cmpi_eq.1 (Host.reduce_andi_all _ _ _ _ _ h1 i)

end Cert.Attn

end
-- ==== Proof.Finite.lean ====
/- Finite inputs give real turned arrays. -/
module

public import proofs.«01_k».proof.Proof.Spec

@[expose] public section

noncomputable section

namespace Cert.Attn

open Idealize.ShloMosaic

/-- The number is real. -/
def IsReal (a : EReal) : Prop := ∃ t : ℝ, a = (t : EReal)

theorem IsReal.of_ne {a : EReal} (h : a ≠ ⊤ ∧ a ≠ ⊥) : IsReal a := ⟨a.toReal, (EReal.coe_toReal h.1 h.2).symm⟩

theorem IsReal.coe (t : ℝ) : IsReal (t : EReal) := ⟨t, rfl⟩

theorem IsReal.add {a b : EReal} (ha : IsReal a) (hb : IsReal b) : IsReal (a + b) := by
  obtain ⟨s, rfl⟩ := ha
  obtain ⟨t, rfl⟩ := hb
  exact ⟨s + t, (EReal.coe_add s t).symm⟩

theorem IsReal.mul {a b : EReal} (ha : IsReal a) (hb : IsReal b) : IsReal (a * b) := by
  obtain ⟨s, rfl⟩ := ha
  obtain ⟨t, rfl⟩ := hb
  exact ⟨s * t, (EReal.coe_mul s t).symm⟩

theorem IsReal.neg {a : EReal} (ha : IsReal a) : IsReal (-a) := by
  obtain ⟨s, rfl⟩ := ha
  exact ⟨-s, (EReal.coe_neg s).symm⟩

theorem IsReal.sum {n : ℕ} {f : Fin n → EReal} (h : ∀ i, IsReal (f i)) : IsReal (∑ i, f i) := by
  choose g hg using h
  exact ⟨∑ i, g i, by rw [funext hg]; exact (map_sum (⟨⟨Real.toEReal, EReal.coe_zero⟩, EReal.coe_add⟩ : ℝ →+ EReal) g Finset.univ).symm⟩

theorem real_lin {x w : Mat 2048} (hx : ∀ r k, IsReal (x r k)) (hw : ∀ r k, IsReal (w r k)) (r c : Fin 2048) : IsReal (lin x w r c) :=
  IsReal.sum fun k => (hx r k).mul (hw k c)

theorem real_turned {x w : Mat 2048} (hx : ∀ r k, IsReal (x r k)) (hw : ∀ r k, IsReal (w r k)) (r c : Fin 2048) : IsReal (turned x w r c) := by
  unfold turned rope rotate
  refine ((real_lin hx hw _ _).mul (IsReal.coe _)).add (IsReal.mul ?_ (IsReal.coe _))
  split
  · exact (real_lin hx hw _ _).neg
  · exact real_lin hx hw _ _

end Cert.Attn

end
-- ==== Proof.RefAngle.lean ====
/- The reference's angle of a head at a row and a lane. -/
module

public import proofs.«01_k».proof.Proof.Gen.ReferenceIdeal.Read
public import proofs.«01_k».proof.Proof.Consts
public import Mathlib.Analysis.SpecialFunctions.Pow.Real

@[expose] public section

set_option maxRecDepth 16384

noncomputable section

namespace Cert.Attn

open Cert.ReferenceIdeal Cert.ReferenceIdeal.Gen Cert.ReferenceIdeal.Read Idealize.ShloMosaic Idealize.ShloMosaic.TcCoe

/-- A small count as a number. -/
theorem count_coe (n : ℕ) (h : n < 4096) : @Eq EReal (FloatOps.sitofp (F := Ideal) FTy.f32 (BitVec.ofNat 32 n)) ((n : ℝ) : EReal) := by
  show (((BitVec.ofNat 32 n).toInt : ℝ) : EReal) = _
  have e : (BitVec.ofNat 32 n).toInt = n := by
    rw [BitVec.toInt_eq_toNat_of_lt (by rw [BitVec.toNat_ofNat]; omega), BitVec.toNat_ofNat, Nat.mod_eq_of_lt (by omega)]
  rw [e, Int.cast_natCast]

theorem bits_two : Ideal.ofBits .f32 1073741824#32 = ((2 : ℝ) : EReal) := by
  simp [Ideal.ofBits, Ideal.ieee, -EReal.coe_mul]; norm_num

theorem bits_ten : Ideal.ofBits .f32 1092616192#32 = ((10 : ℝ) : EReal) := by
  simp [Ideal.ofBits, Ideal.ieee, -EReal.coe_mul]; norm_num

theorem bits_twelve : Ideal.ofBits .f32 1094713344#32 = ((12 : ℝ) : EReal) := by
  simp [Ideal.ofBits, Ideal.ieee, -EReal.coe_mul]; norm_num

theorem bits_eighteen : Ideal.ofBits .f32 1099956224#32 = ((18 : ℝ) : EReal) := by
  simp [Ideal.ofBits, Ideal.ieee, -EReal.coe_mul]; norm_num

theorem bits_128 : Ideal.ofBits .f32 1124073472#32 = ((128 : ℝ) : EReal) := by
  simp [Ideal.ofBits, Ideal.ieee, -EReal.coe_mul]; norm_num

theorem bits_theta : Ideal.ofBits .f32 1176256512#32 = ((10000 : ℝ) : EReal) := by
  simp [Ideal.ofBits, Ideal.ieee, -EReal.coe_mul]; norm_num

/-- A quotient of reals. -/
theorem div_real (a b : ℝ) (h : b ≠ 0) : Ideal.div ((a : ℝ) : EReal) ((b : ℝ) : EReal) = ((a / b : ℝ) : EReal) := by
  rw [Ideal.div_coe h, ← EReal.coe_mul, mul_one_div]

/-- The reference's ratio of a head. -/
theorem ref_ratio (h : Fin 16) : @Eq EReal (val_main_v11 (F := Ideal) (ix1 h)) (((6 / 5 + 3 / 5 * (h.val : ℝ) / 15 : ℝ)) : EReal) := by
  pointwise [val_main_v11, val_main_v9, val_main_v10, val_main_call0_v15, val_main_call0_v16, val_main_call0_v14, val_main_call0_v13, val_main_call0_v12, val_main_call0_v11, val_main_call0_v10, val_main_call0_v9, val_main_call0_v8, val_main_call0_v7, val_main_call0_v6, val_main_call0_v5, val_main_call0_v4, val_main_call0_v3, val_main_call0_v1, val_main_call0_v0, val_main_cst, val_main_cst_0, val_main_cst_1, val_main_call0_cst_0, val_main_call0_cst_1]
  have e12 : id (constant (F := Ideal) S_ FTy.f32 1094713344#32) ix0 = ((12 : ℝ) : EReal) := bits_twelve
  have e18 : id (constant (F := Ideal) S_ FTy.f32 1099956224#32) ix0 = ((18 : ℝ) : EReal) := bits_eighteen
  rw [e12, e18, count_coe h.val (by omega), bits_ten, bits_fifteen, div_real _ _ (by norm_num), ← EReal.coe_one, ← EReal.coe_sub, ← EReal.coe_mul, ← EReal.coe_mul, ← EReal.coe_add]
  split
  · rw [div_real _ _ (by norm_num)]
    congr 1
    ring
  · have e : h.val = 15 := by omega
    rw [div_real _ _ (by norm_num), e]
    congr 1
    norm_num

theorem ref_freq (n : Fin 64) : @Eq EReal (val_main_v28 (F := Ideal) (ix1 n)) ((Real.exp ((n.val : ℝ) * (-1 / 64 * Real.log 10000)) : ℝ) : EReal) := by
  pointwise [val_main_v28, val_main_v27, val_main_v26, val_main_v25, val_main_v24, val_main_v23, val_main_v22, val_main_v21, val_main_v20, val_main_v19, val_main_v18, val_main_cst_2, val_main_cst_3, val_main_cst_4, val_main_cst_5, val_main_cst_6]
  have hb : (10000 : ℝ) ^ ((2 * (n.val : ℝ)) / 128) ≠ 0 := (Real.rpow_pos_of_pos (by norm_num) _).ne'
  rw [count_coe n.val (by omega), bits_two, bits_theta, bits_128, ← EReal.coe_mul, div_real _ _ (by norm_num), Ideal.pow_coe_coe, ← EReal.coe_one]
  refine (div_real 1 _ hb).trans ?_
  congr 1
  rw [one_div, ← Real.rpow_neg (by norm_num), Real.rpow_def_of_pos (by norm_num)]
  congr 1
  ring

/-- The angle of half a head's lanes. -/
theorem ref_half (x1 : S1x2048.Idx → BitVec 32) (h : Fin 16) (r : Fin 2048) (n : Fin 64) (hx : x1 (ix2 0 r) = BitVec.ofNat 32 r.val) :
    @Eq EReal (val_main_v33 (F := Ideal) x1 (ix4 0 h r n))
      (((r.val : ℝ) * Real.exp ((n.val : ℝ) * (-1 / 64 * Real.log 10000)) * (1 / (6 / 5 + 3 / 5 * (h.val : ℝ) / 15)) : ℝ) : EReal) := by
  pointwise [val_main_v33, val_main_v32, val_main_v31, val_main_v30, val_main_v29, val_main_v17, val_main_v16, val_main_v15, val_main_v14, val_main_v13, val_main_v12]
  have hp : (6 / 5 + 3 / 5 * (h.val : ℝ) / 15 : ℝ) ≠ 0 := by positivity
  rw [hx, count_coe r.val (by omega), ref_ratio, div_real _ _ hp, ref_freq, ← EReal.coe_mul]
  congr 1
  ring

/-- The angle: the two halves of a head repeat it. -/
theorem ref_angle (x1 : S1x2048.Idx → BitVec 32) (h : Fin 16) (r : Fin 2048) (d : Fin 128) (hx : x1 (ix2 0 r) = BitVec.ofNat 32 r.val) :
    @Eq EReal (val_main_v34 (F := Ideal) x1 (ix4 0 h r d)) ((angle h r d : ℝ) : EReal) := by
  pointwise [val_main_v34]
  unfold angle
  split
  · refine (ref_half x1 h r _ hx).trans ?_
    rw [Nat.mod_eq_of_lt (by assumption)]
  · refine (ref_half x1 h r _ hx).trans ?_
    have e : d.val % 64 = d.val - 64 := by omega
    rw [e]

end Cert.Attn

end
-- ==== Proof.RefTurn.lean ====
/- The reference's projected and turned arrays. -/
module

public import proofs.«01_k».proof.Proof.RefAngle

@[expose] public section

set_option maxRecDepth 16384

noncomputable section

namespace Cert.Attn

open Cert.ReferenceIdeal Cert.ReferenceIdeal.Gen Cert.ReferenceIdeal.Read Idealize.ShloMosaic Idealize.ShloMosaic.TcCoe

variable (x0 : (⟨S1x2048x2048, .f32⟩ : BufTy).Contents (Elt Ideal)) (x1 : S1x2048.Idx → BitVec 32)
  (w w' : (⟨S2048x2048, .f32⟩ : BufTy).Contents (Elt Ideal))

/-- The input's rows. -/
def rows : Mat 2048 := fun r k => x0 (ix3 0 r k)

theorem head_col (h : Fin 16) (d : Fin 128) : head (col h d) = h := Fin.ext (by show (128 * h.val + d.val) / 128 = h.val; have := d.isLt; omega)

theorem lane_col (h : Fin 16) (d : Fin 128) : lane (col h d) = d := Fin.ext (by show (128 * h.val + d.val) % 128 = d.val; have := d.isLt; omega)

theorem col_head_lane (c : Fin 2048) : col (head c) (lane c) = c := Fin.ext (by show 128 * (c.val / 128) + c.val % 128 = c.val; omega)

/-- A projection split into heads. -/
theorem ref_proj (h : Fin 16) (r : Fin 2048) (d : Fin 128) :
    @Eq EReal (val_main_v2 (F := Ideal) x0 w (ix4 0 h r d)) (lin (rows x0) (rd w) r (col h d)) := by
  rw [val_main_v2_apply, val_main_v1_apply, val_main_v0_apply]
  refine Finset.sum_congr rfl fun k _ => congrArg₂ (fun a b : EReal => a * b) (congrArg x0 (funext fun a => Fin.ext ?_)) (congrArg w (funext fun a => Fin.ext ?_))
  · match a with
    | ⟨0, _⟩ => rfl
    | ⟨1, _⟩ =>
      show (((0 * 2048 + r.val) * 16 + h.val) * 128 + d.val) / 2048 % 2048 = r.val
      have := r.isLt; have := h.isLt; have := d.isLt; omega
    | ⟨2, _⟩ => rfl
  · match a with
    | ⟨0, _⟩ => rfl
    | ⟨1, _⟩ =>
      show (((0 * 2048 + r.val) * 16 + h.val) * 128 + d.val) % 2048 = 128 * h.val + d.val
      have := r.isLt; have := h.isLt; have := d.isLt; omega

/-- The array turned. -/
theorem ref_turn (hx : ∀ r : Fin 2048, x1 (ix2 0 r) = BitVec.ofNat 32 r.val) (h : Fin 16) (r : Fin 2048) (d : Fin 128) :
    @Eq EReal (val_main_v43 (F := Ideal) x0 x1 w (ix4 0 h r d)) (turned (rows x0) (rd w) r (col h d)) := by
  unfold turned rope rotate
  rw [head_col, lane_col]
  pointwise [val_main_v43, val_main_v42, val_main_v41, val_main_v40, val_main_v39, val_main_v38, val_main_v37, val_main_v36, val_main_v35]
  simp only [ref_angle x1 _ _ _ (hx _), ref_proj]
  simp only [Nat.add_comm 64]
  rfl

theorem ref_turn_k (hx : ∀ r : Fin 2048, x1 (ix2 0 r) = BitVec.ofNat 32 r.val) (h : Fin 16) (r : Fin 2048) (d : Fin 128) :
    @Eq EReal (val_main_v50 (F := Ideal) x0 x1 w (ix4 0 h r d)) (turned (rows x0) (rd w) r (col h d)) := ref_turn x0 x1 w hx h r d

theorem ref_values (h : Fin 16) (r : Fin 2048) (d : Fin 128) :
    @Eq EReal (val_main_v8 (F := Ideal) x0 w (ix4 0 h r d)) (lin (rows x0) (rd w) r (col h d)) := ref_proj x0 w h r d

end Cert.Attn

end
-- ==== Proof.RefScore.lean ====
/- The reference's scores, their softmax and its result. -/
module

public import proofs.«01_k».proof.Proof.RefTurn

@[expose] public section

set_option maxRecDepth 16384

noncomputable section

namespace Cert.Attn

open Cert.ReferenceIdeal Cert.ReferenceIdeal.Gen Cert.ReferenceIdeal.Read Idealize.ShloMosaic Idealize.ShloMosaic.TcCoe

/-- The reference's score of a key for a query: nothing past the diagonal. -/
def score (q k : Mat 2048) (h : Fin 16) (i j : Fin 2048) : EReal :=
  if j.val ≤ i.val then Ideal.div (∑ d : Fin 128, q i (col h d) * k j (col h d)) ((Real.sqrt 128 : ℝ) : EReal) else ⊥

/-- The largest score of a query. -/
def top (q k : Mat 2048) (h : Fin 16) (i : Fin 2048) : EReal := max ⊥ (Finset.univ.fold max ⊥ fun j => score q k h i j)

/-- The softmax of a query's scores. -/
def soft (q k : Mat 2048) (h : Fin 16) (i j : Fin 2048) : EReal :=
  Ideal.div (Ideal.exp (score q k h i j - top q k h i)) (∑ n : Fin 2048, Ideal.exp (score q k h i n - top q k h i))

/-- The reference's attention. -/
def mixed (q k v : Mat 2048) : Mat 2048 := fun i c => ∑ j : Fin 2048, soft q k (head c) i j * v j c

theorem bits_bot : Ideal.ofBits .f32 0xFF800000#32 = ⊥ := by simp [Ideal.ofBits, Ideal.ieee]

/-- The mask: true where the key is not past the query. -/
theorem ref_mask (h : Fin 16) (i j : Fin 2048) : val_main_call2_v1 (F := Ideal) (ix4 0 h i j) = BitVec.ofBool (decide (j.val ≤ i.val)) := by
  pointwise [val_main_call2_v1, val_main_v57, val_main_v56, val_main_v55, val_main_c, val_main_call1_v0, val_main_call1_v1, val_main_call1_v2, val_main_call1_v3, val_main_call1_v4, val_main_call1_v5, val_main_call1_c, val_main_call1_c_0]
  have hs : IntOp.cmpi CmpIPredicate.sge (IntOp.addi (BitVec.ofNat 32 i.val) 0#32) (BitVec.ofNat 32 j.val) = BitVec.ofBool (decide (j.val ≤ i.val)) := by
    have hc (n : Fin 2048) : (BitVec.ofNat 32 n.val).toInt = n.val := by
      rw [BitVec.toInt_eq_toNat_of_lt (by rw [BitVec.toNat_ofNat]; omega), BitVec.toNat_ofNat, Nat.mod_eq_of_lt (by omega)]
    have h0 : IntOp.addi (BitVec.ofNat 32 i.val) 0#32 = BitVec.ofNat 32 i.val := BitVec.add_zero _
    rw [h0]
    refine congrArg BitVec.ofBool ?_
    show (BitVec.ofNat 32 j.val).sle (BitVec.ofNat 32 i.val) = _
    rw [BitVec.sle_eq_decide, hc, hc]
    simp
  rw [hs]
  by_cases hji : j.val ≤ i.val
  · rw [decide_eq_true hji]; rfl
  · rw [decide_eq_false hji]; rfl

/-- A row's maximum over a stack of matrices. -/
theorem row_max (v : FVec Ideal S1x16x2048x2048 .f32) (c : FVec Ideal S_ .f32) (h : Fin 16) (i : Fin 2048) :
    Host.reduce FloatOps.maximumf v c reducesTo_S1x16x2048x2048_S1x16x2048_d3 h_S_ (ix3 0 h i) =
      Finset.univ.fold max (c (Shape.Idx.first h_S_)) fun k : Fin 2048 => v (ix4 0 h i k) := by
  simp only [pointwise]

variable (x0 : (⟨S1x2048x2048, .f32⟩ : BufTy).Contents (Elt Ideal)) (x1 : S1x2048.Idx → BitVec 32)
  (w w' u o : (⟨S2048x2048, .f32⟩ : BufTy).Contents (Elt Ideal))
  (hx : ∀ r : Fin 2048, x1 (ix2 0 r) = BitVec.ofNat 32 r.val)

include hx

theorem ref_dot (h : Fin 16) (i j : Fin 2048) :
    @Eq EReal (val_main_v51 (F := Ideal) x0 x1 w w' (ix4 0 h i j))
      (∑ d : Fin 128, turned (rows x0) (rd w) i (col h d) * turned (rows x0) (rd w') j (col h d)) := by
  pointwise [val_main_v51]
  simp only [ref_turn x0 x1 _ hx, ref_turn_k x0 x1 _ hx]

theorem ref_score (h : Fin 16) (i j : Fin 2048) :
    @Eq EReal (val_main_v58 (F := Ideal) x0 x1 w w' (ix4 0 h i j)) (score (turned (rows x0) (rd w)) (turned (rows x0) (rd w')) h i j) := by
  unfold score
  pointwise [val_main_v58, val_main_v54, val_main_v53, val_main_v52, val_main_cst_7, val_main_call2_v2, val_main_call2_v0, val_main_cst_8]
  have e128 : Ideal.sqrt (Ideal.ofBits FTy.f32 1124073472#32) = ((Real.sqrt 128 : ℝ) : EReal) := by
    rw [bits_128, Ideal.sqrt_coe, if_neg (by norm_num)]
  have eb : id (constant (F := Ideal) S_ FTy.f32 4286578688#32) ix0 = (⊥ : EReal) := bits_bot
  rw [e128, eb, ref_dot x0 x1 w w' hx, ref_mask]
  by_cases hji : j.val ≤ i.val
  · rw [decide_eq_true hji, if_pos hji]; rfl
  · rw [decide_eq_false hji, if_neg hji]; rfl

theorem ref_top (h : Fin 16) (i : Fin 2048) :
    @Eq EReal (val_main_v61 (F := Ideal) x0 x1 w w' (ix3 0 h i)) (top (turned (rows x0) (rd w)) (turned (rows x0) (rd w')) h i) := by
  unfold top
  rw [val_main_v61_apply, val_main_v60_apply]
  refine congrArg₂ (fun a b : EReal => max a b) bits_bot ((row_max _ _ h i).trans ?_)
  refine congrArg₂ (fun (a : EReal) (f : Fin 2048 → EReal) => Finset.univ.fold max a f) bits_bot (funext fun j => ?_)
  exact ref_score x0 x1 w w' hx h i j

theorem ref_exp (h : Fin 16) (i j : Fin 2048) :
    @Eq EReal (val_main_v65 (F := Ideal) x0 x1 w w' (ix4 0 h i j))
      (Ideal.exp (score (turned (rows x0) (rd w)) (turned (rows x0) (rd w')) h i j - top (turned (rows x0) (rd w)) (turned (rows x0) (rd w')) h i)) := by
  pointwise [val_main_v65, val_main_v64, val_main_v63, val_main_v62]
  simp only [ref_score x0 x1 _ _ hx, ref_top x0 x1 _ _ hx]

theorem ref_soft (h : Fin 16) (i j : Fin 2048) :
    @Eq EReal (val_main_v69 (F := Ideal) x0 x1 w w' (ix4 0 h i j)) (soft (turned (rows x0) (rd w)) (turned (rows x0) (rd w')) h i j) := by
  unfold soft
  pointwise [val_main_v69, val_main_v68, val_main_v67, val_main_v66, val_main_cst_11]
  simp only [ref_exp x0 x1 _ _ hx]

theorem ref_mixed (i c : Fin 2048) :
    @Eq EReal (val_main_v72 (F := Ideal) x0 x1 w w' u (ix3 0 i c)) (mixed (turned (rows x0) (rd w)) (turned (rows x0) (rd w')) (lin (rows x0) (rd u)) i c) := by
  unfold mixed
  rw [val_main_v72_apply, val_main_v71_apply, val_main_v70_apply]
  refine Finset.sum_congr rfl fun j _ => congrArg₂ (fun a b : EReal => a * b) ?_ ?_
  · refine Eq.trans (congrArg (val_main_v69 (F := Ideal) x0 x1 w w') (funext fun a => Fin.ext ?_)) (ref_soft x0 x1 w w' hx (head c) i j)
    match a with
    | ⟨0, _⟩ => rfl
    | ⟨1, _⟩ =>
      show ((0 * 2048 + i.val) * 2048 + c.val) / 128 % 16 = c.val / 128
      have := c.isLt; omega
    | ⟨2, _⟩ =>
      show ((0 * 2048 + i.val) * 2048 + c.val) / 2048 % 2048 = i.val
      have := c.isLt; have := i.isLt; omega
    | ⟨3, _⟩ => rfl
  · refine Eq.trans (congrArg (val_main_v8 (F := Ideal) x0 u) (funext fun a => Fin.ext ?_)) ((ref_values x0 u (head c) j (lane c)).trans (congrArg (lin (rows x0) (rd u) j) (col_head_lane c)))
    match a with
    | ⟨0, _⟩ => rfl
    | ⟨1, _⟩ =>
      show ((0 * 2048 + i.val) * 2048 + c.val) / 128 % 16 = c.val / 128
      have := c.isLt; omega
    | ⟨2, _⟩ => rfl
    | ⟨3, _⟩ =>
      show ((0 * 2048 + i.val) * 2048 + c.val) % 128 = c.val % 128
      omega

/-- The reference's result at an index. -/
theorem ref_value (i n : Fin 2048) :
    @Eq EReal (val_main_v73 (F := Ideal) x0 x1 w w' u o (ix3 0 i n))
      (lin (mixed (turned (rows x0) (rd w)) (turned (rows x0) (rd w')) (lin (rows x0) (rd u))) (rd o) i n) := by
  rw [val_main_v73_apply]
  refine Finset.sum_congr rfl fun k _ => congrArg₂ (fun a b : EReal => a * b) ?_ ?_
  · refine Eq.trans (congrArg (val_main_v72 (F := Ideal) x0 x1 w w' u) (funext fun a => Fin.ext ?_)) (ref_mixed x0 x1 w w' u hx i k)
    match a with
    | ⟨0, _⟩ => rfl
    | ⟨1, _⟩ => rfl
    | ⟨2, _⟩ => rfl
  · exact congrArg o (Shape.idx_ext₂ rfl rfl)

end Cert.Attn

end
-- ==== Proof.Equation.lean ====
/- The unshifted attention of the kernel and the reference's softmax agree where the scores are real. -/
module

public import proofs.«01_k».proof.Proof.Finite
public import proofs.«01_k».proof.Proof.RefScore

@[expose] public section

set_option maxRecDepth 16384

noncomputable section

namespace Cert.Attn

open Idealize.ShloMosaic

theorem coe_sum {n : ℕ} (f : Fin n → ℝ) : ((∑ i, f i : ℝ) : EReal) = ∑ i, ((f i : ℝ) : EReal) :=
  map_sum (⟨⟨Real.toEReal, EReal.coe_zero⟩, EReal.coe_add⟩ : ℝ →+ EReal) f Finset.univ

/-- A nonnegative real factor goes into a sum of extended reals. -/
theorem sum_scale {n : ℕ} (f : Fin n → EReal) (c : ℝ) (hc : 0 ≤ c) : (∑ i, f i) * (c : EReal) = ∑ i, f i * (c : EReal) := by
  induction n with
  | zero => simp
  | succ n ih =>
    rw [Fin.sum_univ_succ, Fin.sum_univ_succ, ← ih]
    exact EReal.right_distrib_of_nonneg_of_ne_top (EReal.coe_nonneg.2 hc) (EReal.coe_ne_top c) _ _

/-- A maximum of numbers below infinity, one of them real, is real. -/
theorem real_top {n : ℕ} (f : Fin n → EReal) (h : ∀ j, f j ≠ ⊤) (i : Fin n) (hi : f i ≠ ⊥) : IsReal (max ⊥ (Finset.univ.fold max ⊥ f)) := by
  rw [max_eq_right bot_le]
  refine IsReal.of_ne ⟨ne_of_lt ?_, ne_of_gt ?_⟩
  · exact (Finset.fold_max_lt _).2 ⟨bot_lt_top, fun j _ => lt_top_iff_ne_top.2 (h j)⟩
  · exact (Finset.lt_fold_max _).2 (Or.inr ⟨i, Finset.mem_univ _, bot_lt_iff_ne_bot.2 hi⟩)

/-- The weight of a key as a real number. -/
def wt (s : Fin 2048 → ℝ) (i j : Fin 2048) : ℝ := if j.val ≤ i.val then Real.exp (s j) else 0

theorem wt_nonneg (s : Fin 2048 → ℝ) (i j : Fin 2048) : 0 ≤ wt s i j := by
  unfold wt
  split
  · exact (Real.exp_pos _).le
  · exact le_refl _

theorem wt_sum_pos (s : Fin 2048 → ℝ) (i : Fin 2048) : 0 < ∑ j, wt s i j :=
  Finset.sum_pos' (fun j _ => wt_nonneg s i j) ⟨i, Finset.mem_univ _, by unfold wt; rw [if_pos (le_refl _)]; exact Real.exp_pos _⟩

section Row

variable (q k : Mat 2048) (h : Fin 16) (i : Fin 2048) (s : Fin 2048 → ℝ)

/-- The kernel's weight from a real score. -/
theorem weight_eq (hs : ∀ j, ∑ d : Fin 128, q i (col h d) * k j (col h d) = ((s j : ℝ) : EReal)) (j : Fin 2048) : weight q k h i j = ((wt s i j : ℝ) : EReal) := by
  unfold weight wt
  rw [hs]
  split
  · exact Ideal.exp_coe _
  · rfl

/-- The reference's softmax from real scores. -/
theorem soft_eq (hs : ∀ j, Ideal.div (∑ d : Fin 128, q i (col h d) * k j (col h d)) ((Real.sqrt 128 : ℝ) : EReal) = ((s j : ℝ) : EReal)) (j : Fin 2048) :
    soft q k h i j = ((wt s i j / ∑ n, wt s i n : ℝ) : EReal) := by
  have hsc (j : Fin 2048) : score q k h i j = if j.val ≤ i.val then ((s j : ℝ) : EReal) else ⊥ := by
    unfold score; rw [hs]
  obtain ⟨t, ht⟩ : IsReal (top q k h i) := by
    refine real_top _ (fun j => ?_) i ?_
    · rw [hsc]
      split
      · exact EReal.coe_ne_top _
      · exact bot_ne_top
    · rw [hsc, if_pos (le_refl _)]
      exact EReal.coe_ne_bot _
  have he (j : Fin 2048) : Ideal.exp (score q k h i j - top q k h i) = ((wt s i j * Real.exp (-t) : ℝ) : EReal) := by
    rw [hsc, ht]
    unfold wt
    split
    · rw [← EReal.coe_sub, Ideal.exp_coe, sub_eq_add_neg, Real.exp_add]
    · rw [zero_mul, EReal.bot_sub, Ideal.exp_bot, EReal.coe_zero]
  unfold soft
  rw [he, Finset.sum_congr rfl fun n _ => he n, ← coe_sum, ← Finset.sum_mul,
    div_real _ _ (mul_pos (wt_sum_pos s i) (Real.exp_pos _)).ne', mul_div_mul_right _ _ (Real.exp_pos _).ne']

/-- A quotient of weighted sums is the sum weighted by the quotients. -/
theorem div_sum (v : Fin 2048 → EReal) :
    Ideal.div (∑ j, ((wt s i j : ℝ) : EReal) * v j) (∑ j, ((wt s i j : ℝ) : EReal) * 1) = ∑ j, ((wt s i j / ∑ n, wt s i n : ℝ) : EReal) * v j := by
  have hp := wt_sum_pos s i
  simp only [mul_one]
  rw [← coe_sum, Ideal.div_coe hp.ne', sum_scale _ _ (one_div_pos.2 hp).le]
  refine Finset.sum_congr rfl fun j _ => ?_
  rw [mul_right_comm, ← EReal.coe_mul, mul_one_div]

end Row

/-- A real factor goes out of a product's sum. -/
theorem scaled_dot (f g : Fin 128 → EReal) (hf : ∀ d, IsReal (f d)) (hg : ∀ d, IsReal (g d)) :
    ∃ t : ℝ, ∑ d, f d * (((Real.sqrt 128)⁻¹ : ℝ) : EReal) * g d = (t : EReal) ∧ Ideal.div (∑ d, f d * g d) ((Real.sqrt 128 : ℝ) : EReal) = (t : EReal) := by
  choose a ha using hf
  choose b hb using hg
  have h128 : Real.sqrt 128 ≠ 0 := (Real.sqrt_pos.2 (by norm_num)).ne'
  refine ⟨(∑ d, a d * b d) / Real.sqrt 128, ?_, ?_⟩
  · rw [div_eq_mul_inv, Finset.sum_mul, coe_sum]
    refine Finset.sum_congr rfl fun d _ => ?_
    rw [ha, hb, ← EReal.coe_mul, ← EReal.coe_mul, mul_right_comm]
  · rw [← div_real _ _ h128, coe_sum]
    refine congrArg (fun a => Ideal.div a _) (Finset.sum_congr rfl fun d _ => ?_)
    rw [ha, hb, EReal.coe_mul]

/-- The value array's columns: a head's values and, past them, a one. -/
theorem varr_lane (x w : Mat 2048) (j c : Fin 2048) (h : (lane c).val < 256) : varr x w j (vcol (head c) ⟨(lane c).val, h⟩) = lin x w j c := by
  have hc := c.isLt
  have e : (vcol (head c) ⟨(lane c).val, h⟩).val % 256 = c.val % 128 := by
    show (256 * (c.val / 128) + c.val % 128) % 256 = c.val % 128
    omega
  have e' : (vcol (head c) ⟨(lane c).val, h⟩).val / 256 = c.val / 128 := by
    show (256 * (c.val / 128) + c.val % 128) / 256 = c.val / 128
    omega
  unfold varr
  rw [dif_pos (by omega)]
  refine congrArg (lin x w j) (Fin.ext ?_)
  show 128 * ((vcol (head c) ⟨(lane c).val, h⟩).val / 256) + (vcol (head c) ⟨(lane c).val, h⟩).val % 256 = c.val
  omega

theorem varr_one (x w : Mat 2048) (j : Fin 2048) (h : Fin 16) : varr x w j (vcol h 128) = 1 := by
  have e : (vcol h 128).val % 256 = 128 := by
    show (256 * h.val + 128) % 256 = 128
    omega
  unfold varr
  rw [dif_neg (by omega), if_pos e]

/-- The kernel's attention is the reference's. -/
theorem attn_eq (x wq wk wv : Mat 2048) (hx : ∀ r c, IsReal (x r c)) (hq : ∀ r c, IsReal (wq r c)) (hk : ∀ r c, IsReal (wk r c)) :
    attn (qarr x wq) (turned x wk) (varr x wv) = mixed (turned x wq) (turned x wk) (lin x wv) := by
  funext i c
  choose s hs hs' using fun j : Fin 2048 => scaled_dot (fun d => turned x wq i (col (head c) d)) (fun d => turned x wk j (col (head c) d))
    (fun d => real_turned hx hq _ _) (fun d => real_turned hx hk _ _)
  refine Eq.trans ?_ ((div_sum i s fun j => lin x wv j c).trans (Finset.sum_congr rfl fun j _ => congrArg (· * lin x wv j c) (soft_eq (turned x wq) (turned x wk) (head c) i s hs' j).symm))
  refine congrArg₂ Ideal.div (Finset.sum_congr rfl fun j _ => ?_) (Finset.sum_congr rfl fun j _ => ?_)
  · exact congrArg₂ (fun a b : EReal => a * b) (weight_eq (qarr x wq) (turned x wk) (head c) i s hs j) (varr_lane x wv j c _)
  · exact congrArg₂ (fun a b : EReal => a * b) (weight_eq (qarr x wq) (turned x wk) (head c) i s hs j) (varr_one x wv j (head c))

end Cert.Attn

end
-- ==== Proof.lean ====
/- The kernel's frames, its idealization and its equality with the reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Value
public import proofs.«01_k».proof.Proof.Pre
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem Cert.Kernel

/-- The four constants the idealized kernel names. -/
theorem preserves : Cert.preserves_Kernel_KernelIdeal :=
  ⟨IdealRules.named_const.statement Cert.KernelIdeal.κ "log_theta" .f32 0xBE135D8E#32 _ rfl,
   IdealRules.named_const.statement Cert.KernelIdeal.κ "rspan" .f32 0x3F19999A#32 _ rfl,
   IdealRules.named_const.statement Cert.KernelIdeal.κ "rmin" .f32 0x3F99999A#32 _ rfl,
   IdealRules.named_const.statement Cert.KernelIdeal.κ "scale" .f32 0x3DB504F3#32 _ rfl⟩

/-- The kernel's result and the reference's at an index, from arguments that agree. -/
theorem values_agree (x0 : FVec Ideal S1x2048x2048 .f32) (x1 : IVec S1x2048 32) (x2 x3 x4 x5 : FVec Ideal S2048x2048 .f32)
    (hp : @Cert.Pre_finite_at_arange.fn Attn.pre_facts Ideal _ x0 x1 x2 x3 x4 x5 = fun _ => 1#1) (r n : Fin 2048) :
    @Eq EReal (Cert.ReferenceIdeal.Read.val_main_v73 (F := Ideal) x0 x1 x2 x3 x4 x5 (ix3 0 r n))
      (Attn.result (Attn.rows x0) (Attn.rd x2) (Attn.rd x3) (Attn.rd x4) (Attn.rd x5) r n) := by
  obtain ⟨h0, h2, h3, h1⟩ := @Attn.pre_split Attn.pre_facts x0 x1 x2 x3 x4 x5 hp
  refine (Attn.ref_value x0 x1 x2 x3 x4 x5 (fun r => h1 (ix2 0 r)) r n).trans ?_
  unfold Attn.result
  rw [Attn.attn_eq (Attn.rows x0) (Attn.rd x2) (Attn.rd x3) (Attn.rd x4) (fun r c => Attn.IsReal.of_ne (h0 (ix3 0 r c)))
    (fun r c => Attn.IsReal.of_ne (h2 (ix2 r c))) (fun r c => Attn.IsReal.of_ne (h3 (ix2 r c)))]

theorem equal : @Cert.algebraic_KernelIdeal_ReferenceIdeal_pre_finite_at_arange Cert.KernelIdeal.Gen.facts Cert.ReferenceIdeal.Gen.facts Attn.pre_facts := by
  intro m g m' g' hp hm
  refine ⟨fun c => Cert.KernelIdeal.Gen.W5 (F := Ideal) m g c (Proc.devRef .tc Cert.KernelIdeal.main_v15), ?_, ?_⟩
  · exact Attn.run (F := Ideal) m g
  · refine (θ_run Cert.ReferenceIdeal.defs _ _).mono (fun r h c => ⟨(h c).1.trans ?_, (h c).2⟩) (Cert.ReferenceIdeal.Value.run m' g')
    obtain ⟨e0, e1, e2, e3, e4, e5⟩ := hm c
    rw [Cert.ReferenceIdeal.Read.val_main_v73_eq, e0, e1, e2, e3, e4, e5]
    funext y
    obtain ⟨r, n, rfl⟩ : ∃ (r n : Fin 2048), y = ix3 0 r n := ⟨y 1, y 2, funext fun a => Fin.ext (by
      match a with
      | ⟨0, _⟩ => exact Nat.lt_one_iff.1 (y 0).isLt
      | ⟨1, _⟩ => rfl
      | ⟨2, _⟩ => rfl)⟩
    exact (values_agree _ _ _ _ _ _ (hp c) r n).trans (Attn.kernel_value m g c r n).symm

theorem reference_frame : @Cert.quiescent_ReferenceIdeal Cert.ReferenceIdeal.Gen.facts := fun m ρ _ =>
  (θ_run Cert.ReferenceIdeal.defs _ _).mono (fun r h => ⟨fun c => (h c).2,
    Idealize.ShloMosaic.sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Attn.pre_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  preserves,
  equal⟩

end Cert.Proof

end
